-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x768x1024 : Shape := ⟨3, ![24, 768, 1024]⟩
abbrev S48x64x4 : Shape := ⟨3, ![48, 64, 4]⟩
abbrev S3072x128 : Shape := ⟨2, ![3072, 128]⟩
abbrev S3072x32 : Shape := ⟨2, ![3072, 32]⟩
abbrev S48x8 : Shape := ⟨2, ![48, 8]⟩
abbrev S12x4x256 : Shape := ⟨3, ![12, 4, 256]⟩
abbrev S12x4x8 : Shape := ⟨3, ![12, 4, 8]⟩
abbrev S3072x1024 : Shape := ⟨2, ![3072, 1024]⟩
abbrev S1x4x256 : Shape := ⟨3, ![1, 4, 256]⟩
abbrev S256x128 : Shape := ⟨2, ![256, 128]⟩
abbrev S256x32 : Shape := ⟨2, ![256, 32]⟩
abbrev S1x4x8 : Shape := ⟨3, ![1, 4, 8]⟩
abbrev S256x1024 : Shape := ⟨2, ![256, 1024]⟩
abbrev S64x1024 : Shape := ⟨2, ![64, 1024]⟩
abbrev S128x1024 : Shape := ⟨2, ![128, 1024]⟩
abbrev S32x1024 : Shape := ⟨2, ![32, 1024]⟩
abbrev S4x256 : Shape := ⟨2, ![4, 256]⟩
abbrev S4x1024 : Shape := ⟨2, ![4, 1024]⟩
abbrev S64x128 : Shape := ⟨2, ![64, 128]⟩
abbrev S64x32 : Shape := ⟨2, ![64, 32]⟩
abbrev S1x1024 : Shape := ⟨2, ![1, 1024]⟩
abbrev S1x1x1 : Shape := ⟨3, ![1, 1, 1]⟩
abbrev S1x1 : Shape := ⟨2, ![1, 1]⟩
abbrev S18432x1024 : Shape := ⟨2, ![18432, 1024]⟩
abbrev S18432x3072 : Shape := ⟨2, ![18432, 3072]⟩
abbrev S1024x1024 : Shape := ⟨2, ![1024, 1024]⟩
abbrev S1024x3072 : Shape := ⟨2, ![1024, 3072]⟩
abbrev S24x768x3072 : Shape := ⟨3, ![24, 768, 3072]⟩

abbrev nBuf : Space → Nat
  | .hbm => 12
  | .vmem => 15
  | .smem => 0
  | _ => 0

abbrev bufTy : (tb : Table) → Fin (tcTables nBuf tb) → BufTy
  | .hbm, ⟨0, _⟩ => ⟨S24x768x1024, .bf16⟩
  | .hbm, ⟨1, _⟩ => ⟨S48x64x4, .i8⟩
  | .hbm, ⟨2, _⟩ => ⟨S3072x128, .fp8e4m3⟩
  | .hbm, ⟨3, _⟩ => ⟨S3072x32, .i8⟩
  | .hbm, ⟨4, _⟩ => ⟨S48x8, .f32⟩
  | .hbm, ⟨5, _⟩ => ⟨S12x4x256, .i8⟩
  | .hbm, ⟨6, _⟩ => ⟨S12x4x256, .i32⟩
  | .hbm, ⟨7, _⟩ => ⟨S12x4x8, .f32⟩
  | .hbm, ⟨8, _⟩ => ⟨S3072x1024, .bf16⟩
  | .hbm, ⟨9, _⟩ => ⟨S18432x1024, .bf16⟩
  | .hbm, ⟨10, _⟩ => ⟨S18432x3072, .bf16⟩
  | .hbm, ⟨11, _⟩ => ⟨S24x768x3072, .bf16⟩
  | .local _ .vmem, ⟨0, _⟩ => ⟨S1x4x256, .i32⟩
  | .local _ .vmem, ⟨1, _⟩ => ⟨S1x4x256, .i32⟩
  | .local _ .vmem, ⟨2, _⟩ => ⟨S256x128, .fp8e4m3⟩
  | .local _ .vmem, ⟨3, _⟩ => ⟨S256x128, .fp8e4m3⟩
  | .local _ .vmem, ⟨4, _⟩ => ⟨S256x32, .i8⟩
  | .local _ .vmem, ⟨5, _⟩ => ⟨S256x32, .i8⟩
  | .local _ .vmem, ⟨6, _⟩ => ⟨S1x4x8, .f32⟩
  | .local _ .vmem, ⟨7, _⟩ => ⟨S1x4x8, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S3072x1024, .bf16⟩
  | .local _ .vmem, ⟨13, _⟩ => ⟨S1024x3072, .bf16⟩
  | .local _ .vmem, ⟨14, _⟩ => ⟨S1024x3072, .bf16⟩
  | _, _ => ⟨S24x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S24x768x1024 : Shape := ⟨3, ![24, 768, 1024]⟩
abbrev S48x64x4 : Shape := ⟨3, ![48, 64, 4]⟩
abbrev S3072x128 : Shape := ⟨2, ![3072, 128]⟩
abbrev S3072x32 : Shape := ⟨2, ![3072, 32]⟩
abbrev S48x8 : Shape := ⟨2, ![48, 8]⟩
abbrev S2 : Shape := ⟨1, ![2]⟩
abbrev S_ : Shape := ⟨0, ![]⟩
abbrev S3072x32x1 : Shape := ⟨3, ![3072, 32, 1]⟩
abbrev S1x1x2 : Shape := ⟨3, ![1, 1, 2]⟩
abbrev S3072x32x2 : Shape := ⟨3, ![3072, 32, 2]⟩
abbrev S3072x64 : Shape := ⟨2, ![3072, 64]⟩
abbrev S3072x64x1 : Shape := ⟨3, ![3072, 64, 1]⟩
abbrev S3072x64x2 : Shape := ⟨3, ![3072, 64, 2]⟩
abbrev S48x64x64x2 : Shape := ⟨4, ![48, 64, 64, 2]⟩
abbrev S48x1x64x1x4 : Shape := ⟨5, ![48, 1, 64, 1, 4]⟩
abbrev S48x1x64x1x1 : Shape := ⟨5, ![48, 1, 64, 1, 1]⟩
abbrev S48x1x64x1 : Shape := ⟨4, ![48, 1, 64, 1]⟩
abbrev S48x64x8x16 : Shape := ⟨4, ![48, 64, 8, 16]⟩
abbrev S48x1x8x1 : Shape := ⟨4, ![48, 1, 8, 1]⟩
abbrev S16 : Shape := ⟨1, ![16]⟩
abbrev S1x1x16 : Shape := ⟨3, ![1, 1, 16]⟩
abbrev S3072x64x16 : Shape := ⟨3, ![3072, 64, 16]⟩
abbrev S3072x1024 : Shape := ⟨2, ![3072, 1024]⟩
abbrev S24x768x3072 : Shape := ⟨3, ![24, 768, 3072]⟩

abbrev nBuf : Space → Nat
  | .hbm => 88
  | .vmem => 2
  | .smem => 0
  | _ => 0

abbrev bufTy : (tb : Table) → Fin (tcTables nBuf tb) → BufTy
  | .hbm, ⟨0, _⟩ => ⟨S24x768x1024, .bf16⟩
  | .hbm, ⟨1, _⟩ => ⟨S48x64x4, .i8⟩
  | .hbm, ⟨2, _⟩ => ⟨S3072x128, .fp8e4m3⟩
  | .hbm, ⟨3, _⟩ => ⟨S3072x32, .i8⟩
  | .hbm, ⟨4, _⟩ => ⟨S48x8, .f32⟩
  | .hbm, ⟨5, _⟩ => ⟨S3072x128, .bf16⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S3072x32, .i32⟩
  | .hbm, ⟨11, _⟩ => ⟨S3072x32x1, .i32⟩
  | .hbm, ⟨12, _⟩ => ⟨S1x1x2, .i32⟩
  | .hbm, ⟨13, _⟩ => ⟨S3072x32x2, .i32⟩
  | .hbm, ⟨14, _⟩ => ⟨S3072x32x2, .i32⟩
  | .hbm, ⟨15, _⟩ => ⟨S3072x32x2, .i32⟩
  | .hbm, ⟨16, _⟩ => ⟨S3072x64, .i32⟩
  | .hbm, ⟨17, _⟩ => ⟨S_, .i32⟩
  | .hbm, ⟨18, _⟩ => ⟨S3072x64, .i32⟩
  | .hbm, ⟨19, _⟩ => ⟨S3072x64, .i32⟩
  | .hbm, ⟨20, _⟩ => ⟨S_, .i32⟩
  | .hbm, ⟨21, _⟩ => ⟨S3072x64, .i32⟩
  | .hbm, ⟨22, _⟩ => ⟨S3072x64, .i32⟩
  | .hbm, ⟨23, _⟩ => ⟨S_, .i32⟩
  | .hbm, ⟨24, _⟩ => ⟨S3072x64, .i32⟩
  | .hbm, ⟨25, _⟩ => ⟨S3072x64, .i32⟩
  | .hbm, ⟨26, _⟩ => ⟨S3072x64x1, .i32⟩
  | .hbm, ⟨27, _⟩ => ⟨S3072x64x1, .i32⟩
  | .hbm, ⟨28, _⟩ => ⟨S3072x64x2, .i32⟩
  | .hbm, ⟨29, _⟩ => ⟨S48x64x64x2, .i32⟩
  | .hbm, ⟨30, _⟩ => ⟨S48x64x4, .i32⟩
  | .hbm, ⟨31, _⟩ => ⟨S48x1x64x1x4, .i32⟩
  | .hbm, ⟨32, _⟩ => ⟨S_, .i32⟩
  | .hbm, ⟨33, _⟩ => ⟨S48x64x64x2, .i32⟩
  | .hbm, ⟨34, _⟩ => ⟨S48x64x64x2, .i32⟩
  | .hbm, ⟨35, _⟩ => ⟨S_, .i32⟩
  | .hbm, ⟨36, _⟩ => ⟨S48x64x64x2, .i32⟩
  | .hbm, ⟨37, _⟩ => ⟨S48x64x64x2, .i1⟩
  | .hbm, ⟨38, _⟩ => ⟨S_, .i32⟩
  | .hbm, ⟨39, _⟩ => ⟨S48x64x64x2, .i32⟩
  | .hbm, ⟨40, _⟩ => ⟨S48x64x64x2, .i32⟩
  | .hbm, ⟨41, _⟩ => ⟨S_, .i32⟩
  | .hbm, ⟨42, _⟩ => ⟨S48x64x64x2, .i32⟩
  | .hbm, ⟨43, _⟩ => ⟨S48x64x64x2, .i1⟩
  | .hbm, ⟨44, _⟩ => ⟨S48x1x64x1x1, .i32⟩
  | .hbm, ⟨45, _⟩ => ⟨S48x1x64x1, .i32⟩
  | .hbm, ⟨46, _⟩ => ⟨S48x1x64x1x1, .i32⟩
  | .hbm, ⟨47, _⟩ => ⟨S48x1x64x1, .i32⟩
  | .hbm, ⟨48, _⟩ => ⟨S48x64x64x2, .i32⟩
  | .hbm, ⟨49, _⟩ => ⟨S48x64x64x2, .i32⟩
  | .hbm, ⟨50, _⟩ => ⟨S48x64x64x2, .i32⟩
  | .hbm, ⟨51, _⟩ => ⟨S48x1x64x1x1, .i32⟩
  | .hbm, ⟨52, _⟩ => ⟨S48x1x64x1, .i32⟩
  | .hbm, ⟨53, _⟩ => ⟨S48x1x64x1x1, .i32⟩
  | .hbm, ⟨54, _⟩ => ⟨S48x1x64x1, .i32⟩
  | .hbm, ⟨55, _⟩ => ⟨S48x64x64x2, .i32⟩
  | .hbm, ⟨56, _⟩ => ⟨S48x64x64x2, .i32⟩
  | .hbm, ⟨57, _⟩ => ⟨S48x64x64x2, .i32⟩
  | .hbm, ⟨58, _⟩ => ⟨S48x64x64x2, .i32⟩
  | .hbm, ⟨59, _⟩ => ⟨S3072x64x2, .i32⟩
  | .hbm, ⟨60, _⟩ => ⟨S48x64x8x16, .bf16⟩
  | .hbm, ⟨61, _⟩ => ⟨S48x8, .bf16⟩
  | .hbm, ⟨62, _⟩ => ⟨S48x1x8x1, .bf16⟩
  | .hbm, ⟨63, _⟩ => ⟨S48x64x8x16, .bf16⟩
  | .hbm, ⟨64, _⟩ => ⟨S48x64x8x16, .bf16⟩
  | .hbm, ⟨65, _⟩ => ⟨S3072x64x2, .bf16⟩
  | .hbm, ⟨66, _⟩ => ⟨S16, .i32⟩
  | .hbm, ⟨67, _⟩ => ⟨S3072x64x1, .i32⟩
  | .hbm, ⟨68, _⟩ => ⟨S1x1x16, .i32⟩
  | .hbm, ⟨69, _⟩ => ⟨S3072x64x16, .i32⟩
  | .hbm, ⟨70, _⟩ => ⟨S3072x64x16, .i32⟩
  | .hbm, ⟨71, _⟩ => ⟨S3072x64x16, .i1⟩
  | .hbm, ⟨72, _⟩ => ⟨S3072x64x1, .bf16⟩
  | .hbm, ⟨73, _⟩ => ⟨S3072x64x1, .i32⟩
  | .hbm, ⟨74, _⟩ => ⟨S1x1x16, .i32⟩
  | .hbm, ⟨75, _⟩ => ⟨S3072x64x16, .i32⟩
  | .hbm, ⟨76, _⟩ => ⟨S3072x64x16, .i32⟩
  | .hbm, ⟨77, _⟩ => ⟨S3072x64x16, .i1⟩
  | .hbm, ⟨78, _⟩ => ⟨S3072x64x1, .bf16⟩
  | .hbm, ⟨79, _⟩ => ⟨S_, .bf16⟩
  | .hbm, ⟨80, _⟩ => ⟨S3072x64x16, .bf16⟩
  | .hbm, ⟨81, _⟩ => ⟨S3072x64x16, .bf16⟩
  | .hbm, ⟨82, _⟩ => ⟨S3072x64x16, .bf16⟩
  | .hbm, ⟨83, _⟩ => ⟨S3072x64x16, .bf16⟩
  | .hbm, ⟨84, _⟩ => ⟨S3072x64x16, .bf16⟩
  | .hbm, ⟨85, _⟩ => ⟨S3072x1024, .bf16⟩
  | .hbm, ⟨86, _⟩ => ⟨S24x768x3072, .f32⟩
  | .hbm, ⟨87, _⟩ => ⟨S24x768x3072, .bf16⟩
  | .local _ .vmem, ⟨0, _⟩ => ⟨S3072x128, .fp8e4m3⟩
  | .local _ .vmem, ⟨1, _⟩ => ⟨S3072x128, .bf16⟩
  | _, _ => ⟨S24x768x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_v62 : Ref sig .tc := ⟨.hbm, 82, rfl⟩
abbrev main_call4_v0 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3072x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Run.lean ====
/-
  The kernel's run with its result kept: the run of the generated frame, whose last valuation is read at the result
  array as well as at the arguments.
-/
module

public import proofs.«01_k».proof.Proof.Gen.KernelIdeal.Frame

@[expose] public section

set_option maxRecDepth 16384

noncomputable section

namespace Cert.Sparse.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run of the kernel ends with the result array at the last valuation and the arguments unchanged. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Sparse.KernelRun

end
-- ==== Proof.Spec.lean ====
/-
  The decoded weight as a plain function of one byte, four columns and two products, and the three facts about
  extended reals that let a one-hot matrix product read a single entry.
-/
module

public import proofs.«01_k».proof.Proof.Gen.KernelIdeal.Frame
public import Idealize.ShloMosaic.Lib.MatmulPlain
public import Idealize.ShloMosaic.Lib.ValueIdx
public import Idealize.ShloMosaic.Lib.ValueIdxCore
public import Idealize.ShloMosaic.PureOps.Ideal.Laws
public import Idealize.ShloMosaic.Lib.IdealHost
public import Idealize.ShloMosaic.Lib.Pipeline.Value

@[expose] public section

noncomputable section

namespace Cert.Sparse

open Idealize.ShloMosaic Idealize.ShloMosaic.ValueIdx
open scoped BigOperators

/-- A two-axis index is the pair of its coordinates. -/
theorem at2 {m n : Nat} (i : (⟨2, ![m, n]⟩ : Shape).Idx) (a : Fin m) (b : Fin n) (h0 : (i 0 : Nat) = a.val) (h1 : (i 1 : Nat) = b.val) :
    i = ix2 a b :=
  funext fun x => match x with
    | ⟨0, _⟩ => Fin.ext h0
    | ⟨1, _⟩ => Fin.ext h1

/-- A three-axis index is the triple of its coordinates. -/
theorem at3 {m n p : Nat} (i : (⟨3, ![m, n, p]⟩ : Shape).Idx) (a : Fin m) (b : Fin n) (d : Fin p)
    (h0 : (i 0 : Nat) = a.val) (h1 : (i 1 : Nat) = b.val) (h2 : (i 2 : Nat) = d.val) : i = ix3 a b d :=
  funext fun x => match x with
    | ⟨0, _⟩ => Fin.ext h0
    | ⟨1, _⟩ => Fin.ext h1
    | ⟨2, _⟩ => Fin.ext h2

/-- A four-axis index is the tuple of its coordinates. -/
theorem at4 {m n p q : Nat} (i : (⟨4, ![m, n, p, q]⟩ : Shape).Idx) (a : Fin m) (b : Fin n) (d : Fin p) (e : Fin q)
    (h0 : (i 0 : Nat) = a.val) (h1 : (i 1 : Nat) = b.val) (h2 : (i 2 : Nat) = d.val) (h3 : (i 3 : Nat) = e.val) : i = ix4 a b d e :=
  funext fun x => match x with
    | ⟨0, _⟩ => Fin.ext h0
    | ⟨1, _⟩ => Fin.ext h1
    | ⟨2, _⟩ => Fin.ext h2
    | ⟨3, _⟩ => Fin.ext h3

/-- One of four columns, chosen by the two low bits of `n`. -/
def pick (n : BitVec 32) (w : Fin 4 → BitVec 32) : BitVec 32 :=
  Scalar.select (IntOp.cmpi .eq (IntOp.andi n 2#32) 2#32)
    (Scalar.select (IntOp.cmpi .eq (IntOp.andi n 1#32) 1#32) (w 3) (w 2))
    (Scalar.select (IntOp.cmpi .eq (IntOp.andi n 1#32) 1#32) (w 1) (w 0))

/-- The byte, shifted so that the nibble of column `k`'s group is lowest. -/
def nibble (b : BitVec 8) (k : Nat) : BitVec 32 :=
  IntOp.shrui .vector (b.setWidth 32) (BitVec.ofNat 32 (4 * (k / 16 % 2)))

/-- Two bits at the bottom: the first index of the nibble. -/
def first (b : BitVec 8) (k : Nat) : BitVec 32 := IntOp.andi (nibble b k) 3#32

/-- The next two bits: the second index of the nibble. -/
def second (b : BitVec 8) (k : Nat) : BitVec 32 := IntOp.andi (IntOp.shrsi .vector (nibble b k) 2#32) 3#32

/-- The dense weight at column `k`: the first value where the first chosen column is `k`'s offset in its group, else the
    second value where the second chosen column is, else zero. -/
def entry (b : BitVec 8) (w : Fin 4 → BitVec 32) (v0 v1 : EReal) (k : Nat) : EReal :=
  Scalar.select (IntOp.cmpi .eq (BitVec.ofNat 32 (k % 16)) (pick (first b k) w)) v0
    (Scalar.select (IntOp.cmpi .eq (BitVec.ofNat 32 (k % 16)) (pick (second b k) w)) v1 0)

/-- A one-hot entry: row `r` compared with the word of `n` selects one where they are equal and zero elsewhere. -/
theorem hot {r n : Nat} (hr : r < 2 ^ 32) (hn : n < 2 ^ 32) {t : BitVec 32} (ht : t = BitVec.ofNat 32 n) :
    (Scalar.select (IntOp.cmpi .eq (BitVec.ofNat 32 r) t) (Ideal.ofBits .f32 0x3F800000#32) (Ideal.ofBits .f32 0x00000000#32) : EReal)
      = if r = n then 1 else 0 := by
  subst ht
  rw [Ideal.ofBits_one_f32, Ideal.ofBits_zero_f32]
  by_cases h : r = n
  · subst h; rw [if_pos rfl]; simp [IntOp.cmpi, Scalar.select]
  · have : ¬ BitVec.ofNat 32 r = BitVec.ofNat 32 n := fun e => h (by
      have := congrArg BitVec.toNat e
      rwa [BitVec.toNat_ofNat, BitVec.toNat_ofNat, Nat.mod_eq_of_lt hr, Nat.mod_eq_of_lt hn] at this)
    rw [if_neg h, show IntOp.cmpi .eq (BitVec.ofNat 32 r) (BitVec.ofNat 32 n) = 0#1 by simp only [IntOp.cmpi]; rw [beq_eq_false_iff_ne.mpr this]; rfl]; rfl

/-- A sum against a one-hot column is the entry it marks: every other term is a product with zero. -/
theorem sum_hot {R : Nat} (A : Fin R → EReal) (n : Fin R) (B : Fin R → EReal) (hB : ∀ r, B r = if r.val = n.val then 1 else 0) :
    ∑ r : Fin R, A r * B r = A n := by
  rw [Finset.sum_eq_single n]
  · rw [hB, if_pos rfl, mul_one]
  · intro r _ hr
    rw [hB, if_neg (fun h => hr (Fin.ext h)), mul_zero]
  · intro h; exact absurd (Finset.mem_univ n) h

/-- A 32-bit integer read as a real and converted back is itself. -/
theorem fptosi_toInt (b : BitVec 32) : Ideal.fptosi 32 (((b.toInt : ℝ) : EReal)) = b := by
  have h1 := BitVec.toInt_lt (x := b)
  have h2 := BitVec.le_toInt (x := b)
  show BitVec.ofInt 32 (max _ (min _ (if (0 : ℝ) ≤ (b.toInt : ℝ) then ⌊(b.toInt : ℝ)⌋ else ⌈(b.toInt : ℝ)⌉))) = b
  rw [Int.floor_intCast, Int.ceil_intCast, ite_self, min_eq_right, max_eq_right, BitVec.ofInt_toInt]
  · norm_num at h1 h2 ⊢; omega
  · norm_num at h1 h2 ⊢; omega

end Cert.Sparse

end
-- ==== Proof.Lanes.lean ====
/-
  The kernel's integer lanes and one-hot matrices read at an index: the printed floor division and floor modulus are the
  natural ones at every column, so each one-hot matrix marks one row of each column.
-/
module

public import proofs.«01_k».proof.Proof.Spec

@[expose] public section

set_option maxRecDepth 16384

noncomputable section

namespace Cert.Sparse

open Idealize.ShloMosaic Idealize.ShloMosaic.ValueIdx Cert.KernelIdeal Cert.KernelIdeal.Gen

/-- The sign of a word as the printer spells it. -/
def sgn (x : BitVec 32) : BitVec 32 :=
  IntOp.subi ((IntOp.cmpi .sgt x 0#32).setWidth 32) ((IntOp.cmpi .slt x 0#32).setWidth 32)

/-- The printed floor division of `x` by `d`. -/
def fdiv (d x : BitVec 32) : BitVec 32 :=
  Scalar.select (IntOp.andi (IntOp.cmpi .ne (sgn x) (sgn d)) (IntOp.cmpi .ne (IntOp.remsi .vector x d) 0#32))
    (IntOp.subi (IntOp.divsi .vector x d) 1#32) (IntOp.divsi .vector x d)

/-- The printed floor modulus of `x` by `d`. -/
def fmod (d x : BitVec 32) : BitVec 32 :=
  Scalar.select (IntOp.andi (IntOp.xori (IntOp.cmpi .slt (IntOp.remsi .vector x d) 0#32) (IntOp.cmpi .slt d 0#32))
      (IntOp.cmpi .ne (IntOp.remsi .vector x d) 0#32))
    (IntOp.addi (IntOp.remsi .vector x d) d) (IntOp.remsi .vector x d)

theorem fdiv16 : ∀ k : Fin 1024, fdiv 16#32 (BitVec.ofNat 32 k.val) = BitVec.ofNat 32 (k.val / 16) := by decide +kernel
theorem fdiv32 : ∀ k : Fin 1024, fdiv 32#32 (BitVec.ofNat 32 k.val) = BitVec.ofNat 32 (k.val / 32) := by decide +kernel
theorem fmod16 : ∀ k : Fin 1024, fmod 16#32 (BitVec.ofNat 32 k.val) = BitVec.ofNat 32 (k.val % 16) := by decide +kernel
theorem fmod2 : ∀ g : Fin 64, IntOp.muli (fmod 2#32 (BitVec.ofNat 32 g.val)) 4#32 = BitVec.ofNat 32 (4 * (g.val % 2)) := by
  decide +kernel

/-- Row numbers and column numbers of a two-axis index vector. -/
theorem iota_row {R C : Nat} (h : (⟨2, ![R, C]⟩ : Shape).Iotas .tc 32 [0]) (r : Fin R) (k : Fin C) :
    iota .tc ⟨2, ![R, C]⟩ 32 [0] h (ix2 r k) = BitVec.ofNat 32 r.val := by
  rw [iota_single_apply]; rfl
theorem iota_col {R C : Nat} (h : (⟨2, ![R, C]⟩ : Shape).Iotas .tc 32 [1]) (r : Fin R) (k : Fin C) :
    iota .tc ⟨2, ![R, C]⟩ 32 [1] h (ix2 r k) = BitVec.ofNat 32 k.val := by
  rw [iota_single_apply]; rfl

variable (x0 : Vec Ideal S1x4x256 .i32) (x1 : Vec Ideal S256x128 .fp8e4m3) (x2 : Vec Ideal S256x32 .i8) (x3 : Vec Ideal S1x4x8 .f32)

/-- Column `k`'s offset in its group of sixteen. -/
theorem offs_apply (r : Fin 64) (k : Fin 1024) : k0_pay102 x0 x1 x2 x3 (ix2 r k) = BitVec.ofNat 32 (k.val % 16) := by
  show fmod 16#32 (iota .tc S64x1024 32 [1] iota_S64x1024_d1_w32 (ix2 r k)) = _
  rw [iota_col, fmod16]

/-- The shift that brings the nibble of `k`'s group down. -/
theorem shift_apply (r : Fin 64) (k : Fin 1024) : k0_pay103 x0 x1 x2 x3 (ix2 r k) = BitVec.ofNat 32 (4 * (k.val / 16 % 2)) := by
  show IntOp.muli (fmod 2#32 (fdiv 16#32 (iota .tc S64x1024 32 [1] iota_S64x1024_d1_w32 (ix2 r k)))) 4#32 = _
  rw [iota_col, fdiv16]
  exact fmod2 ⟨k.val / 16, by omega⟩

/-- The first value matrix marks row `2 (k / 16)`. -/
theorem e0_apply (r : Fin 128) (k : Fin 1024) :
    k0_pay104 x0 x1 x2 x3 (ix2 r k) = if r.val = 2 * (k.val / 16) then (1 : EReal) else 0 := by
  show (Scalar.select (IntOp.cmpi .eq (iota .tc S128x1024 32 [0] iota_S128x1024_d0_w32 (ix2 r k))
    (IntOp.muli 2#32 (fdiv 16#32 (iota .tc S128x1024 32 [1] iota_S128x1024_d1_w32 (ix2 r k))))) (Ideal.ofBits .f32 0x3F800000#32)
      (Ideal.ofBits .f32 0x00000000#32) : EReal) = _
  rw [iota_row, iota_col, fdiv16]
  exact hot (by omega) (by omega) (BitVec.ofNat_mul ..).symm

/-- The second value matrix marks row `2 (k / 16) + 1`. -/
theorem e1_apply (r : Fin 128) (k : Fin 1024) :
    k0_pay105 x0 x1 x2 x3 (ix2 r k) = if r.val = 2 * (k.val / 16) + 1 then (1 : EReal) else 0 := by
  show (Scalar.select (IntOp.cmpi .eq (iota .tc S128x1024 32 [0] iota_S128x1024_d0_w32 (ix2 r k))
    (IntOp.addi (IntOp.muli 2#32 (fdiv 16#32 (iota .tc S128x1024 32 [1] iota_S128x1024_d1_w32 (ix2 r k)))) 1#32))
      (Ideal.ofBits .f32 0x3F800000#32) (Ideal.ofBits .f32 0x00000000#32) : EReal) = _
  rw [iota_row, iota_col, fdiv16]
  exact hot (by omega) (by omega) ((BitVec.ofNat_add ..).trans (congrArg (· + 1#32) (BitVec.ofNat_mul ..))).symm

/-- The index matrix marks row `k / 32`. -/
theorem ei_apply (r : Fin 32) (k : Fin 1024) :
    k0_pay106 x0 x1 x2 x3 (ix2 r k) = if r.val = k.val / 32 then (1 : EReal) else 0 := by
  show (Scalar.select (IntOp.cmpi .eq (iota .tc S32x1024 32 [0] iota_S32x1024_d0_w32 (ix2 r k))
    (fdiv 32#32 (iota .tc S32x1024 32 [1] iota_S32x1024_d1_w32 (ix2 r k)))) (Ideal.ofBits .f32 0x3F800000#32)
      (Ideal.ofBits .f32 0x00000000#32) : EReal) = _
  rw [iota_row, iota_col, fdiv32]
  exact hot (by omega) (by omega) rfl

/-- The column matrix of choice `j` as the body spells it: one where the row is `4 (k / 16) + j`. -/
def colHot (j : BitVec 32) : FVec Ideal S256x1024 .bf16 := fun i =>
  Scalar.select (IntOp.cmpi .eq (iota .tc S256x1024 32 [0] iota_S256x1024_d0_w32 i)
    (IntOp.addi (IntOp.muli 4#32 (fdiv 16#32 (iota .tc S256x1024 32 [1] iota_S256x1024_d1_w32 i))) j))
      (Ideal.ofBits .f32 0x3F800000#32) (Ideal.ofBits .f32 0x00000000#32)

/-- It marks row `4 (k / 16) + j`. -/
theorem colHot_apply (j : Nat) (hj : j < 4) (r : Fin 256) (k : Fin 1024) :
    colHot (BitVec.ofNat 32 j) (ix2 r k) = if r.val = 4 * (k.val / 16) + j then (1 : EReal) else 0 := by
  unfold colHot
  rw [iota_row, iota_col, fdiv16]
  exact hot (by omega) (by omega) ((BitVec.ofNat_add ..).trans (congrArg (· + BitVec.ofNat 32 j) (BitVec.ofNat_mul ..))).symm

/-- A block of columns against the column matrix, converted back to integers: row `b` at column `k` is entry
    `4 (k / 16) + j` of the block's row `b`. -/
def colPick (j : BitVec 32) : IVec S4x1024 32 :=
  fptosi 32 (matmul dot_S4x256_S256x1024_S4x1024_1_0_0_1_n_n none (k0_pay13 x0) (colHot j) (constant (F := Ideal) S4x1024 .f32 0x00000000#32))

theorem colPick_apply (j : Nat) (hj : j < 4) (b : Fin 4) (k : Fin 1024) :
    colPick x0 (BitVec.ofNat 32 j) (ix2 b k) = x0 (ix3 0 b ⟨4 * (k.val / 16) + j, by omega⟩) := by
  have h : (matmul dot_S4x256_S256x1024_S4x1024_1_0_0_1_n_n none (k0_pay13 x0) (colHot (BitVec.ofNat 32 j))
      (constant (F := Ideal) S4x1024 .f32 0x00000000#32)) (ix2 b k) = k0_pay13 (F := Ideal) x0 (ix2 b ⟨4 * (k.val / 16) + j, by omega⟩) := by
    refine (Ideal.matmul_plain_apply (M := 4) (K := 256) (N := 1024) none (k0_pay13 (F := Ideal) x0) (colHot (BitVec.ofNat 32 j)) _ b k).trans ?_
    rw [constant_apply, Ideal.ofBits_zero_f32, zero_add]
    exact sum_hot _ _ _ fun r => colHot_apply j hj r k
  show Ideal.fptosi 32 _ = _
  rw [h]
  show Ideal.fptosi 32 (((BitVec.toInt (shapeCast S4x256 x0 shapeCasts_S1x4x256_S4x256 _) : ℝ)) : EReal) = _
  rw [fptosi_toInt]
  exact shapeCast_apply _ _ _ (ix3 0 b ⟨4 * (k.val / 16) + j, by omega⟩) (by
    refine (Shape.rowMajor_val_three _).trans (Eq.trans ?_ (Shape.rowMajor_val_two _).symm)
    show (0 * 4 + b.val) * 256 + (4 * (k.val / 16) + j) = b.val * 256 + (4 * (k.val / 16) + j)
    rw [Nat.zero_mul, Nat.zero_add])

/-- The whole block of columns read through its own rectangle is the block. -/
theorem ld_cols : View.ld x0 r0_0 = x0 :=
  have hz : (![0, 0, 0] : Fin 3 → Nat) = fun _ => 0 := by funext a; fin_cases a <;> rfl
  View.ld_unit_zero (S := S1x4x256) hz _ x0

/-- The four chosen-column matrices of the body are those of the choices 0, 1, 2 and 3. -/
theorem wc0_eq : k0_pay108 x0 x1 x2 x3 = colPick x0 0#32 := by
  rw [show colPick x0 0#32 = colPick (View.ld x0 r0_0) 0#32 by rw [ld_cols]]; rfl
theorem wc1_eq : k0_pay109 x0 x1 x2 x3 = colPick x0 1#32 := by
  rw [show colPick x0 1#32 = colPick (View.ld x0 r0_0) 1#32 by rw [ld_cols]]; rfl
theorem wc2_eq : k0_pay110 x0 x1 x2 x3 = colPick x0 2#32 := by
  rw [show colPick x0 2#32 = colPick (View.ld x0 r0_0) 2#32 by rw [ld_cols]]; rfl
theorem wc3_eq : k0_pay111 x0 x1 x2 x3 = colPick x0 3#32 := by
  rw [show colPick x0 3#32 = colPick (View.ld x0 r0_0) 3#32 by rw [ld_cols]]; rfl

end Cert.Sparse

end
-- ==== Proof.Block.lean ====
/-
  The decode body's result block: its four stores are one function of the sub-block number, and that function read at an
  index is the decoded weight of that row and column.
-/
module

public import proofs.«01_k».proof.Proof.Lanes

@[expose] public section

set_option maxRecDepth 16384

noncomputable section

namespace Cert.Sparse

open Idealize.ShloMosaic Idealize.ShloMosaic.ValueIdx Cert.KernelIdeal Cert.KernelIdeal.Gen

/-- A row repeated over the sixty-four rows of a sub-block. -/
def spread (w : IVec S1x1024 32) : IVec S64x1024 32 :=
  broadcastTo S64x1024 (shapeCast S1x1024 w shapeCasts_S1x1024_S1x1024) broadcasts_S1x1024_S64x1024

/-- `pick` on whole sub-blocks, as the body spells it. -/
def pickV (n : IVec S64x1024 32) (w : Fin 4 → IVec S1x1024 32) : IVec S64x1024 32 :=
  select (cmpi .eq (andi n (broadcast S64x1024 2#32)) (broadcast S64x1024 2#32))
    (select (cmpi .eq (andi n (broadcast S64x1024 1#32)) (broadcast S64x1024 1#32)) (spread (w 3)) (spread (w 2)))
    (select (cmpi .eq (andi n (broadcast S64x1024 1#32)) (broadcast S64x1024 1#32)) (spread (w 1)) (spread (w 0)))

section
variable {F : FTy → Type} [FloatOps F]

/-- The index bytes spread to their columns by the index matrix and shifted. -/
def packed (sh : IVec S64x1024 32) (ei : FVec F S32x1024 .bf16) (xi : Vec F S64x32 .i8) : IVec S64x1024 32 :=
  shrui (fptosi 32 (matmul dot_S64x32_S32x1024_S64x1024_1_0_0_1_n_n none (sitofp .bf16 (extui 32 xi natLt_8_32)) ei
    (constant S64x1024 .f32 0x00000000#32))) sh

/-- The values of one choice spread to their columns. -/
def valsV (e : FVec F S128x1024 .bf16) (xv : Vec F S64x128 .fp8e4m3) : FVec F S64x1024 .bf16 :=
  truncf .bf16 (matmul dot_S64x128_S128x1024_S64x1024_1_0_0_1_n_n none (extf .bf16 xv bitsLt_fp8e4m3_bf16) e
    (constant S64x1024 .f32 0x00000000#32)) bitsLt_bf16_f32

/-- Eight scales, each repeated over its hundred and twenty-eight columns. -/
def scales (s : Fin 8 → Vec F S1x1x1 .f32) : FVec F S64x1024 .bf16 :=
  truncf .bf16 (concatenate S64x1024 1 (List.ofFn fun n : Fin 8 => (⟨S64x128, broadcastTo S64x128
    (shapeCast S1x1 (shapeCast S1x1 (s n) shapeCasts_S1x1x1_S1x1) shapeCasts_S1x1_S1x1) broadcasts_S1x1_S64x128⟩ : (s : Shape) × (s.Idx → F .f32)))
    concatenates_S64x128_S64x128_S64x128_S64x128_S64x128_S64x128_S64x128_S64x128_S64x1024_d1) bitsLt_bf16_f32

/-- One sub-block from its inputs. -/
def block (offs sh : IVec S64x1024 32) (e0 e1 : FVec F S128x1024 .bf16) (ei : FVec F S32x1024 .bf16) (w : Fin 4 → IVec S1x1024 32)
    (xv : Vec F S64x128 .fp8e4m3) (xi : Vec F S64x32 .i8) (s : Fin 8 → Vec F S1x1x1 .f32) : FVec F S64x1024 .bf16 :=
  truncf .bf16 (select (cmpi .eq offs (pickV (andi (packed sh ei xi) (broadcast S64x1024 3#32)) w))
    (extf .f32 (mulf (valsV e0 xv) (scales s)) bitsLt_bf16_f32)
    (select (cmpi .eq offs (pickV (andi (shrsi (packed sh ei xi) (broadcast S64x1024 2#32)) (broadcast S64x1024 3#32)) w))
      (extf .f32 (mulf (valsV e1 xv) (scales s)) bitsLt_bf16_f32)
      (broadcast S64x1024 (Scalar.ofBits .f32 0x00000000#32)))) bitsLt_bf16_f32

variable (x0 : Vec F S1x4x256 .i32) (x1 : Vec F S256x128 .fp8e4m3) (x2 : Vec F S256x32 .i8) (x3 : Vec F S1x4x8 .f32)

/-- Rows `64 b` to `64 b + 63` of a block of values, -/
abbrev rectV (b : Fin 4) : Rect S256x128 := Rect.unit (s := S256x128) ![64 * b.val, 0] S64x128.size
  (fun a => match a with | ⟨0, _⟩ => (show 64 * b.val + 64 ≤ 256 by omega) | ⟨1, _⟩ => (show 0 + 128 ≤ 128 by omega))
/-- of index bytes, -/
abbrev rectI (b : Fin 4) : Rect S256x32 := Rect.unit (s := S256x32) ![64 * b.val, 0] S64x32.size
  (fun a => match a with | ⟨0, _⟩ => (show 64 * b.val + 64 ≤ 256 by omega) | ⟨1, _⟩ => (show 0 + 32 ≤ 32 by omega))
/-- and of the result; -/
abbrev rectO (b : Fin 4) : Rect S256x1024 := Rect.unit (s := S256x1024) ![64 * b.val, 0] S64x1024.size
  (fun a => match a with | ⟨0, _⟩ => (show 64 * b.val + 64 ≤ 256 by omega) | ⟨1, _⟩ => (show 0 + 1024 ≤ 1024 by omega))
/-- scale `n` of sub-block `b`. -/
abbrev rectS (b : Fin 4) (n : Fin 8) : Rect S1x4x8 := Rect.unit (s := S1x4x8) ![0, b.val, n.val] S1x1x1.size
  (fun a => match a with | ⟨0, _⟩ => (show 0 + 1 ≤ 1 by omega) | ⟨1, _⟩ => (show b.val + 1 ≤ 4 by omega) | ⟨2, _⟩ => (show n.val + 1 ≤ 8 by omega))
/-- Row `b` of a block of columns. -/
def rowOf (b : Fin 4) (w : IVec S4x1024 32) : IVec S1x1024 32 :=
  extractStridedSlice S1x1024 ![b.val, 0] w
    ⟨rfl, fun a => match a with | ⟨0, _⟩ => (show b.val + 1 ≤ 4 by omega) | ⟨1, _⟩ => (show 0 + 1024 ≤ 1024 by omega)⟩

/-- Sub-block `b` of the decode body's result. -/
def blockAt (b : Fin 4) : FVec F S64x1024 .bf16 :=
  block (k0_pay102 x0 x1 x2 x3) (k0_pay103 x0 x1 x2 x3) (k0_pay104 x0 x1 x2 x3) (k0_pay105 x0 x1 x2 x3) (k0_pay106 x0 x1 x2 x3)
    (fun j => match j with
      | ⟨0, _⟩ => rowOf b (k0_pay108 x0 x1 x2 x3) | ⟨1, _⟩ => rowOf b (k0_pay109 x0 x1 x2 x3)
      | ⟨2, _⟩ => rowOf b (k0_pay110 x0 x1 x2 x3) | ⟨3, _⟩ => rowOf b (k0_pay111 x0 x1 x2 x3))
    (View.ld x1 (rectV b)) (View.ld x2 (rectI b)) (fun n => View.ld x3 (rectS b n))

/-- The body's four stores are the four sub-blocks. -/
theorem out_eq : out0_4 x0 x1 x2 x3 = View.canon [⟨rectO 3, blockAt x0 x1 x2 x3 3⟩, ⟨rectO 2, blockAt x0 x1 x2 x3 2⟩,
    ⟨rectO 1, blockAt x0 x1 x2 x3 1⟩, ⟨rectO 0, blockAt x0 x1 x2 x3 0⟩] := rfl

end

/-! ## Read at an index, over the extended reals -/

/-- A repeated row at an index is the row there. -/
theorem spread_apply (w : IVec S1x1024 32) (r : Fin 64) (k : Fin 1024) : spread w (ix2 r k) = w (ix2 0 k) := by
  unfold spread
  rw [broadcastTo_apply _ _ (ix2 r k) (ix2 0 k) (fun a => by match a with | ⟨0, _⟩ => rfl | ⟨1, _⟩ => rfl)]
  exact shapeCast_apply _ _ _ _ rfl

/-- `pickV` at an index is `pick` there. -/
theorem pickV_apply (n : IVec S64x1024 32) (w : Fin 4 → IVec S1x1024 32) (r : Fin 64) (k : Fin 1024) :
    pickV n w (ix2 r k) = pick (n (ix2 r k)) (fun j => w j (ix2 0 k)) := by
  show Scalar.select _ (Scalar.select _ (spread (w 3) (ix2 r k)) (spread (w 2) (ix2 r k)))
    (Scalar.select _ (spread (w 1) (ix2 r k)) (spread (w 0) (ix2 r k))) = _
  rw [spread_apply, spread_apply, spread_apply, spread_apply]
  rfl

/-- The index matrix picks, at column `k`, the byte of `k`'s pair of groups. -/
theorem packed_apply (sh : IVec S64x1024 32) (ei : FVec Ideal S32x1024 .bf16) (xi : Vec Ideal S64x32 .i8) (r : Fin 64) (k : Fin 1024)
    (hsh : sh (ix2 r k) = BitVec.ofNat 32 (4 * (k.val / 16 % 2)))
    (hei : ∀ a : Fin 32, ei (ix2 a k) = if a.val = k.val / 32 then (1 : EReal) else 0) :
    packed sh ei xi (ix2 r k) = nibble (xi (ix2 r ⟨k.val / 32, by omega⟩)) k.val := by
  have h : (matmul dot_S64x32_S32x1024_S64x1024_1_0_0_1_n_n none (sitofp (F := Ideal) .bf16 (extui 32 xi natLt_8_32)) ei
      (constant (F := Ideal) S64x1024 .f32 0x00000000#32)) (ix2 r k)
      = sitofp (F := Ideal) .bf16 (extui 32 xi natLt_8_32) (ix2 r ⟨k.val / 32, by omega⟩) := by
    refine (Ideal.matmul_plain_apply (M := 64) (K := 32) (N := 1024) none (sitofp (F := Ideal) .bf16 (extui 32 xi natLt_8_32)) ei _ r k).trans ?_
    rw [constant_apply, Ideal.ofBits_zero_f32, zero_add]
    exact sum_hot _ _ _ hei
  show IntOp.shrui .vector (Ideal.fptosi 32 _) _ = _
  rw [h, hsh]
  show IntOp.shrui .vector (Ideal.fptosi 32 (((BitVec.toInt _ : ℝ)) : EReal)) _ = _
  rw [fptosi_toInt]
  rfl

/-- A value matrix picks, at column `k`, the value of the marked row. -/
theorem valsV_apply (e : FVec Ideal S128x1024 .bf16) (xv : Vec Ideal S64x128 .fp8e4m3) (r : Fin 64) (k : Fin 1024) (n : Fin 128)
    (he : ∀ a : Fin 128, e (ix2 a k) = if a.val = n.val then (1 : EReal) else 0) : valsV e xv (ix2 r k) = xv (ix2 r n) := by
  refine (Ideal.matmul_plain_apply (M := 64) (K := 128) (N := 1024) none (extf (F := Ideal) .bf16 xv bitsLt_fp8e4m3_bf16) e _ r k).trans ?_
  rw [constant_apply, Ideal.ofBits_zero_f32, zero_add]
  exact sum_hot _ _ _ he

/-- The scales at column `k` are scale `k / 128`. -/
theorem scales_apply (s : Fin 8 → Vec Ideal S1x1x1 .f32) (r : Fin 64) (k : Fin 1024) :
    scales s (ix2 r k) = s ⟨k.val / 128, by omega⟩ (ix3 0 0 0) := by
  unfold scales
  rw [truncf_apply]
  refine (concatenate_ofFn_apply (t := S64x1024) (s₁ := S64x128) 1 _ _ rfl 128 rfl (ix2 r k) ⟨k.val / 128, by omega⟩ rfl
    (ix2 r ⟨k.val % 128, by omega⟩) rfl (fun b hb => ?_)).trans ?_
  · match b with
    | ⟨0, _⟩ => rfl
    | ⟨1, _⟩ => exact absurd rfl hb
  · rw [broadcastTo_apply _ _ _ (ix2 0 0) (fun a => by match a with | ⟨0, _⟩ => rfl | ⟨1, _⟩ => rfl)]
    rw [shapeCast_apply _ _ _ (ix2 0 0) rfl]
    exact shapeCast_apply _ _ _ _ (by rw [Shape.rowMajor_val_three, Shape.rowMajor_val_two]; rfl)

variable (x0 : Vec Ideal S1x4x256 .i32) (x1 : Vec Ideal S256x128 .fp8e4m3) (x2 : Vec Ideal S256x32 .i8) (x3 : Vec Ideal S1x4x8 .f32)

/-- Row `r` of sub-block `b` at column `k` is the decoded weight of the block's row `64 b + r` at that column. -/
theorem blockAt_apply (b : Fin 4) (r : Fin 64) (k : Fin 1024) :
    blockAt x0 x1 x2 x3 b (ix2 r k) = entry (x2 (ix2 ⟨64 * b.val + r.val, by omega⟩ ⟨k.val / 32, by omega⟩))
      (fun j => x0 (ix3 0 b ⟨4 * (k.val / 16) + j.val, by omega⟩))
      (x1 (ix2 ⟨64 * b.val + r.val, by omega⟩ ⟨2 * (k.val / 16), by omega⟩) * x3 (ix3 0 b ⟨k.val / 128, by omega⟩))
      (x1 (ix2 ⟨64 * b.val + r.val, by omega⟩ ⟨2 * (k.val / 16) + 1, by omega⟩) * x3 (ix3 0 b ⟨k.val / 128, by omega⟩)) k.val := by
  have hp := packed_apply (k0_pay103 x0 x1 x2 x3) (k0_pay106 x0 x1 x2 x3) (View.ld x2 (rectI b)) r k
    (shift_apply x0 x1 x2 x3 r k) (fun a => ei_apply x0 x1 x2 x3 a k)
  have hv0 := valsV_apply (k0_pay104 x0 x1 x2 x3) (View.ld x1 (rectV b)) r k ⟨2 * (k.val / 16), by omega⟩
    (fun a => e0_apply x0 x1 x2 x3 a k)
  have hv1 := valsV_apply (k0_pay105 x0 x1 x2 x3) (View.ld x1 (rectV b)) r k ⟨2 * (k.val / 16) + 1, by omega⟩
    (fun a => e1_apply x0 x1 x2 x3 a k)
  have hs := scales_apply (fun n => View.ld x3 (rectS b n)) r k
  have hi : View.ld x2 (rectI b) (ix2 r ⟨k.val / 32, by omega⟩) = x2 (ix2 ⟨64 * b.val + r.val, by omega⟩ ⟨k.val / 32, by omega⟩) := by
    refine congrArg x2 (funext fun a => Fin.ext ?_)
    match a with
    | ⟨0, _⟩ => show 64 * b.val + 1 * r.val = 64 * b.val + r.val; omega
    | ⟨1, _⟩ => show 0 + 1 * (k.val / 32) = k.val / 32; omega
  have hx : ∀ n : Fin 128, View.ld x1 (rectV b) (ix2 r n) = x1 (ix2 ⟨64 * b.val + r.val, by omega⟩ n) := fun n => by
    refine congrArg x1 (funext fun a => Fin.ext ?_)
    match a with
    | ⟨0, _⟩ => show 64 * b.val + 1 * r.val = 64 * b.val + r.val; omega
    | ⟨1, _⟩ => show 0 + 1 * n.val = n.val; omega
  have hc : ∀ n : Fin 8, View.ld x3 (rectS b n) (ix3 0 0 0) = x3 (ix3 0 b n) := fun n => by
    refine congrArg x3 (funext fun a => Fin.ext ?_)
    match a with
    | ⟨0, _⟩ => rfl
    | ⟨1, _⟩ => rfl
    | ⟨2, _⟩ => rfl
  have hw : ∀ (w : IVec S4x1024 32), rowOf b w (ix2 0 k) = w (ix2 b k) := fun w => by
    refine congrArg w (funext fun a => Fin.ext ?_)
    match a with
    | ⟨0, _⟩ => rfl
    | ⟨1, _⟩ => show 0 + k.val = k.val; omega
  have hcol : (fun j : Fin 4 => (match j with
      | ⟨0, _⟩ => rowOf b (k0_pay108 x0 x1 x2 x3) | ⟨1, _⟩ => rowOf b (k0_pay109 x0 x1 x2 x3)
      | ⟨2, _⟩ => rowOf b (k0_pay110 x0 x1 x2 x3) | ⟨3, _⟩ => rowOf b (k0_pay111 x0 x1 x2 x3) : IVec S1x1024 32) (ix2 0 k))
      = fun j => x0 (ix3 0 b ⟨4 * (k.val / 16) + j.val, by omega⟩) := funext fun j => by
    match j with
    | ⟨0, _⟩ => exact (hw _).trans ((congrFun (wc0_eq x0 x1 x2 x3) _).trans (colPick_apply x0 0 (by omega) b k))
    | ⟨1, _⟩ => exact (hw _).trans ((congrFun (wc1_eq x0 x1 x2 x3) _).trans (colPick_apply x0 1 (by omega) b k))
    | ⟨2, _⟩ => exact (hw _).trans ((congrFun (wc2_eq x0 x1 x2 x3) _).trans (colPick_apply x0 2 (by omega) b k))
    | ⟨3, _⟩ => exact (hw _).trans ((congrFun (wc3_eq x0 x1 x2 x3) _).trans (colPick_apply x0 3 (by omega) b k))
  rw [hx] at hv0 hv1
  rw [hc] at hs
  rw [hi] at hp
  unfold blockAt block
  show Scalar.select (IntOp.cmpi .eq (k0_pay102 x0 x1 x2 x3 (ix2 r k)) (pickV _ _ (ix2 r k)))
    (valsV (F := Ideal) _ _ (ix2 r k) * scales (F := Ideal) _ (ix2 r k)) (Scalar.select (IntOp.cmpi .eq (k0_pay102 x0 x1 x2 x3 (ix2 r k)) (pickV _ _ (ix2 r k)))
    (valsV (F := Ideal) _ _ (ix2 r k) * scales (F := Ideal) _ (ix2 r k)) (Ideal.ofBits .f32 0x00000000#32)) = _
  rw [offs_apply, pickV_apply, pickV_apply, hcol, hv0, hv1, hs, Ideal.ofBits_zero_f32]
  show Scalar.select (IntOp.cmpi .eq _ (pick (IntOp.andi (packed (F := Ideal) _ _ _ (ix2 r k)) 3#32) _)) _
    (Scalar.select (IntOp.cmpi .eq _ (pick (IntOp.andi (IntOp.shrsi .vector (packed (F := Ideal) _ _ _ (ix2 r k)) 2#32) 3#32) _)) _ _) = _
  rw [hp]
  rfl

/-- An index outside the rows of sub-block `b`. -/
theorem not_mem_rectO (b : Fin 4) (i : S256x1024.Idx) (h : (i 0).val / 64 ≠ b.val) : i ∉ (rectO b).set := by
  rw [Rect.mem_set_unit]
  intro hm
  have : 64 * b.val ≤ (i 0).val ∧ (i 0).val < 64 * b.val + 64 := hm 0
  omega

/-- Row `64 b + r` of the result block is row `r` of its sub-block. -/
theorem rectO_emb (b : Fin 4) (r : Fin 64) (k : Fin 1024) : (rectO b).emb (ix2 r k) = ix2 ⟨64 * b.val + r.val, by omega⟩ k := by
  funext a
  match a with
  | ⟨0, _⟩ => exact Fin.ext (show 64 * b.val + 1 * r.val = 64 * b.val + r.val by omega)
  | ⟨1, _⟩ => exact Fin.ext (show 0 + 1 * k.val = k.val by omega)

/-- The result block at row `64 b + r` is sub-block `b` at row `r`. -/
theorem out_sub (b : Fin 4) (r : Fin 64) (k : Fin 1024) :
    out0_4 x0 x1 x2 x3 (ix2 ⟨64 * b.val + r.val, by omega⟩ k) = blockAt x0 x1 x2 x3 b (ix2 r k) := by
  have hn : ∀ b' : Fin 4, b' ≠ b → (ix2 ⟨64 * b.val + r.val, by omega⟩ k : S256x1024.Idx) ∉ (rectO b').set := fun b' hb' =>
    not_mem_rectO b' _ (fun h => hb' (Fin.ext (by rw [← h]; show (64 * b.val + r.val) / 64 = b.val; omega)))
  have skip : ∀ (b' : Fin 4) (p : Vec Ideal S64x1024 .bf16) (L : List (View.Piece (Elt Ideal) S256x1024 .bf16)), b' ≠ b →
      View.canon (⟨rectO b', p⟩ :: L) (ix2 ⟨64 * b.val + r.val, by omega⟩ k) = View.canon L (ix2 ⟨64 * b.val + r.val, by omega⟩ k) :=
    fun b' p L h => View.canon_cons_of_not_mem _ _ (hn b' h)
  have take : ∀ (p : Vec Ideal S64x1024 .bf16) (L : List (View.Piece (Elt Ideal) S256x1024 .bf16)),
      View.canon (⟨rectO b, p⟩ :: L) (ix2 ⟨64 * b.val + r.val, by omega⟩ k) = p (ix2 r k) := fun p L => by
    rw [← rectO_emb b r k]; exact View.canon_cons_emb _ _ _ _
  rw [out_eq]
  have hb : b = 3 ∨ b = 2 ∨ b = 1 ∨ b = 0 := by omega
  rcases hb with h | h | h | h
  · rw [← h]; exact take _ _
  · rw [skip 3 _ _ (by rw [h]; decide), ← h]; exact take _ _
  · rw [skip 3 _ _ (by rw [h]; decide), skip 2 _ _ (by rw [h]; decide), ← h]; exact take _ _
  · rw [skip 3 _ _ (by rw [h]; decide), skip 2 _ _ (by rw [h]; decide), skip 1 _ _ (by rw [h]; decide), ← h]; exact take _ _

/-- The result block at an index: the decoded weight of the block's row there. -/
theorem out_apply (r : Fin 256) (k : Fin 1024) :
    out0_4 x0 x1 x2 x3 (ix2 r k) = entry (x2 (ix2 r ⟨k.val / 32, by omega⟩))
      (fun j => x0 (ix3 0 ⟨r.val / 64, by omega⟩ ⟨4 * (k.val / 16) + j.val, by omega⟩))
      (x1 (ix2 r ⟨2 * (k.val / 16), by omega⟩) * x3 (ix3 0 ⟨r.val / 64, by omega⟩ ⟨k.val / 128, by omega⟩))
      (x1 (ix2 r ⟨2 * (k.val / 16) + 1, by omega⟩) * x3 (ix3 0 ⟨r.val / 64, by omega⟩ ⟨k.val / 128, by omega⟩)) k.val := by
  have hr : (⟨64 * (⟨r.val / 64, by omega⟩ : Fin 4).val + (⟨r.val % 64, by omega⟩ : Fin 64).val, by
      show 64 * (r.val / 64) + r.val % 64 < 256; omega⟩ : Fin 256) = r :=
    Fin.ext (show 64 * (r.val / 64) + r.val % 64 = r.val by omega)
  have h := (out_sub x0 x1 x2 x3 ⟨r.val / 64, by omega⟩ ⟨r.val % 64, by omega⟩ k).trans (blockAt_apply x0 x1 x2 x3 _ _ k)
  rw [hr] at h
  exact h

end Cert.Sparse

end
-- ==== Proof.Decode.lean ====
/-
  The first pipeline of the kernel: its output array ends holding the dense weight, index by index, as the function
  `dense` of the four arrays its windows read.
-/
module

public import proofs.«01_k».proof.Proof.Block

@[expose] public section

set_option maxRecDepth 16384

noncomputable section

namespace Cert.Sparse

open Cert.KernelIdeal Cert.KernelIdeal.Gen
open Idealize.ShloMosaic Idealize.ShloMosaic.TcCoe Idealize.ShloMosaic.ValueIdx
open Idealize.ShloMosaic.Pipeline (Dat)

/-- The dense weight of a row and a column, read off the columns and scales laid out by decode step and the values and
    bytes laid out by row. -/
def dense (cols : S12x4x256.Idx → BitVec 32) (vals : S3072x128.Idx → EReal) (idx : S3072x32.Idx → BitVec 8)
    (sc : S12x4x8.Idx → EReal) (n : Fin 3072) (k : Fin 1024) : EReal :=
  entry (idx (ix2 n ⟨k.val / 32, by omega⟩))
    (fun j => cols (ix3 ⟨n.val / 256, by omega⟩ ⟨n.val / 64 % 4, by omega⟩ ⟨4 * (k.val / 16) + j.val, by omega⟩))
    (vals (ix2 n ⟨2 * (k.val / 16), by omega⟩) * sc (ix3 ⟨n.val / 256, by omega⟩ ⟨n.val / 64 % 4, by omega⟩ ⟨k.val / 128, by omega⟩))
    (vals (ix2 n ⟨2 * (k.val / 16) + 1, by omega⟩) * sc (ix3 ⟨n.val / 256, by omega⟩ ⟨n.val / 64 % 4, by omega⟩ ⟨k.val / 128, by omega⟩)) k.val

variable (V : (c : Dev nD) → (b : Ref sig .tc) → Buf (Elt Ideal) ((c : Thread nD τ).loc b))

/-- The first window's block index at a point: its place along the leading axis. -/
theorem at0_0 : ∀ t : Fin grid0.N, win0_0.index t 0 = t.val ∧ win0_0.index t 1 = 0 ∧ win0_0.index t 2 = 0 := by decide +kernel
/-- The second window's block index at a point. -/
theorem at0_1 : ∀ t : Fin grid0.N, win0_1.index t 0 = t.val ∧ win0_1.index t 1 = 0 := by decide +kernel
/-- The third window's block index at a point. -/
theorem at0_2 : ∀ t : Fin grid0.N, win0_2.index t 0 = t.val ∧ win0_2.index t 1 = 0 := by decide +kernel
/-- The fourth window's block index at a point. -/
theorem at0_3 : ∀ t : Fin grid0.N, win0_3.index t 0 = t.val ∧ win0_3.index t 1 = 0 ∧ win0_3.index t 2 = 0 := by decide +kernel
/-- The output window's block index at a point. -/
theorem at0_4 : ∀ t : Fin grid0.N, win0_4.index t 0 = t.val ∧ win0_4.index t 1 = 0 := by decide +kernel

theorem N0 (t : Fin cfg0.N) : t.val < 12 := t.isLt.trans_eq N_0

/-- The columns' block at point `t` is the array's slab `t`. -/
theorem blk0_0 (c : Dev nD) (t : Fin cfg0.N) (b : Fin 4) (a : Fin 256) :
    (iblk0 V c 0 t : S1x4x256.Idx → BitVec 32) (ix3 0 b a) = V c main_v1 (ix3 ⟨t.val, N0 t⟩ b a) := by
  refine congrArg (V c main_v1) (at3 _ _ _ _ ?_ ?_ ?_)
  · show win0_0.index t 0 * 1 + 1 * 0 = t.val; rw [(at0_0 t).1]; omega
  · show win0_0.index t 1 * 4 + 1 * b.val = b.val; rw [(at0_0 t).2.1]; omega
  · show win0_0.index t 2 * 256 + 1 * a.val = a.val; rw [(at0_0 t).2.2]; omega

/-- The values' block at point `t` is the array's rows from `256 t`. -/
theorem blk0_1 (c : Dev nD) (t : Fin cfg0.N) (r : Fin 256) (a : Fin 128) :
    (iblk0 V c 1 t : S256x128.Idx → EReal) (ix2 r a) = V c main_arg2 (ix2 ⟨256 * t.val + r.val, by have := N0 t; omega⟩ a) := by
  refine congrArg (V c main_arg2) (at2 _ _ _ ?_ ?_)
  · show win0_1.index t 0 * 256 + 1 * r.val = 256 * t.val + r.val; rw [(at0_1 t).1]; omega
  · show win0_1.index t 1 * 128 + 1 * a.val = a.val; rw [(at0_1 t).2]; omega

/-- The bytes' block at point `t` is the array's rows from `256 t`. -/
theorem blk0_2 (c : Dev nD) (t : Fin cfg0.N) (r : Fin 256) (a : Fin 32) :
    (iblk0 V c 2 t : S256x32.Idx → BitVec 8) (ix2 r a) = V c main_arg3 (ix2 ⟨256 * t.val + r.val, by have := N0 t; omega⟩ a) := by
  refine congrArg (V c main_arg3) (at2 _ _ _ ?_ ?_)
  · show win0_2.index t 0 * 256 + 1 * r.val = 256 * t.val + r.val; rw [(at0_2 t).1]; omega
  · show win0_2.index t 1 * 32 + 1 * a.val = a.val; rw [(at0_2 t).2]; omega

/-- The scales' block at point `t` is the array's slab `t`. -/
theorem blk0_3 (c : Dev nD) (t : Fin cfg0.N) (b : Fin 4) (a : Fin 8) :
    (iblk0 V c 3 t : S1x4x8.Idx → EReal) (ix3 0 b a) = V c main_v2 (ix3 ⟨t.val, N0 t⟩ b a) := by
  refine congrArg (V c main_v2) (at3 _ _ _ _ ?_ ?_ ?_)
  · show win0_3.index t 0 * 1 + 1 * 0 = t.val; rw [(at0_3 t).1]; omega
  · show win0_3.index t 1 * 4 + 1 * b.val = b.val; rw [(at0_3 t).2.1]; omega
  · show win0_3.index t 2 * 8 + 1 * a.val = a.val; rw [(at0_3 t).2.2]; omega

/-- The dense weight as the contents of the decode's output array. -/
def denseV (c : Dev nD) : Buf (Elt Ideal) ((c : Thread nD τ).loc main_v3) := fun (i : S3072x1024.Idx) =>
  dense (V c main_v1) (V c main_arg2) (V c main_arg3) (V c main_v2) (i 0) (i 1)

/-- The block a point computes, index by index, is the dense weight's rows from `256 t`. -/
theorem block_dense (c : Dev nD) (t : Fin cfg0.N) (r : Fin 256) (k : Fin 1024) :
    out0_4 (iblk0 V c 0 t) (iblk0 V c 1 t) (iblk0 V c 2 t) (iblk0 V c 3 t) (ix2 r k)
      = dense (V c main_v1) (V c main_arg2) (V c main_arg3) (V c main_v2) ⟨256 * t.val + r.val, by have := N0 t; omega⟩ k := by
  have ht := N0 t
  refine (out_apply _ _ _ _ r k).trans ?_
  unfold dense
  have e1 : (⟨(256 * t.val + r.val) / 256, by omega⟩ : Fin 12) = ⟨t.val, ht⟩ := Fin.ext (by show (256 * t.val + r.val) / 256 = t.val; omega)
  have e2 : (⟨(256 * t.val + r.val) / 64 % 4, by omega⟩ : Fin 4) = ⟨r.val / 64, by omega⟩ :=
    Fin.ext (by show (256 * t.val + r.val) / 64 % 4 = r.val / 64; omega)
  rw [blk0_1, blk0_1, blk0_2, blk0_3]
  simp only [blk0_0, e1, e2]

/-- What point `t` writes back is block `t` of the dense weight. -/
theorem flushed0 (c : Dev nD) (t : Fin cfg0.N) :
    (dat0 V c).flushed 4 t = (win0_4.blk t).view.read (Elt Ideal) (denseV V c) := by
  show (cfg0.win 4).cut (grid0.coords t) ((dat0 V c).after 4 t) = _
  rw [after0_4]
  funext (i : S256x1024.Idx)
  have hi : i = ix2 (i 0) (i 1) := at2 _ _ _ rfl rfl
  refine (congrArg (out0_4 (iblk0 V c 0 t) (iblk0 V c 1 t) (iblk0 V c 2 t) (iblk0 V c 3 t)) hi).trans ?_
  refine (block_dense V c t (i 0) (i 1)).trans ?_
  show _ = denseV V c ((win0_4.rect t).emb i)
  unfold denseV
  congr 1
  · apply Fin.ext
    show 256 * t.val + (i 0 : Nat) = win0_4.index t 0 * 256 + 1 * (i 0 : Nat); rw [(at0_4 t).1]; omega
  · apply Fin.ext
    show (i 1 : Nat) = win0_4.index t 1 * 1024 + 1 * (i 1 : Nat); rw [(at0_4 t).2]; omega

/-- An index of the output array is in point `t`'s block where its row is one of the point's. -/
theorem mem_blk0 (t : Fin cfg0.N) (i : S3072x1024.Idx) (h : 256 * t.val ≤ (i 0 : Nat) ∧ (i 0 : Nat) < 256 * t.val + 256) :
    i ∈ ((cfg0.win 4).blk t).view.set := by
  show i ∈ ((View.whole main_v3).slice (win0_4.rect t)).set
  rw [View.set_slice_whole, Rect.mem_set_unit]
  have h1 : (i 1 : Nat) < 1024 := (i 1).isLt
  intro a
  match a with
  | ⟨0, _⟩ => show win0_4.index t 0 * 256 ≤ (i 0 : Nat) ∧ (i 0 : Nat) < win0_4.index t 0 * 256 + 256
              rw [(at0_4 t).1]; omega
  | ⟨1, _⟩ => show win0_4.index t 1 * 1024 ≤ (i 1 : Nat) ∧ (i 1 : Nat) < win0_4.index t 1 * 1024 + 1024
              rw [(at0_4 t).2]; omega

/-- The twelve blocks tile the output array. -/
theorem cover0 (i : S3072x1024.Idx) : ∃ t : Fin cfg0.N, (cfg0.win 4).flush t = true ∧ i ∈ ((cfg0.win 4).blk t).view.set := by
  have h0 : (i 0 : Nat) < 3072 := (i 0).isLt
  refine ⟨⟨(i 0 : Nat) / 256, lt_of_lt_of_eq (show (i 0 : Nat) / 256 < 12 by omega) N_0.symm⟩, flush0_4 _, mem_blk0 _ i ?_⟩
  show 256 * ((i 0 : Nat) / 256) ≤ (i 0 : Nat) ∧ (i 0 : Nat) < 256 * ((i 0 : Nat) / 256) + 256
  omega

/-- The decode's output array ends holding the dense weight. -/
theorem final0 (c : Dev nD) : (dat0 V c).arrAt 4 cfg0.N = denseV V c :=
  (dat0 V c).arrAt_eq_of_cover 4 (denseV V c) (fun t _ => flushed0 V c t) cover0

end Cert.Sparse
-- ==== Proof.Product.lean ====
/-
  The second pipeline of the kernel: its output array ends holding the rows of the activation times the rows of the
  weight, summed over the shared axis.
-/
module

public import proofs.«01_k».proof.Proof.Spec

@[expose] public section

set_option maxRecDepth 16384

noncomputable section

namespace Cert.Sparse

open Cert.KernelIdeal Cert.KernelIdeal.Gen
open Idealize.ShloMosaic Idealize.ShloMosaic.TcCoe Idealize.ShloMosaic.ValueIdx
open Idealize.ShloMosaic.Pipeline (Dat)
open scoped BigOperators

/-- Row `r` of the activation times row `n` of the weight. -/
def product (x : S18432x1024.Idx → EReal) (w : S3072x1024.Idx → EReal) (r : Fin 18432) (n : Fin 3072) : EReal :=
  ∑ k : Fin 1024, x (ix2 r k) * w (ix2 n k)

variable (V : (c : Dev nD) → (b : Ref sig .tc) → Buf (Elt Ideal) ((c : Thread nD τ).loc b))

/-- The activation window's block index at a point. -/
theorem at1_0 : ∀ t : Fin grid1.N, win1_0.index t 0 = t.val ∧ win1_0.index t 1 = 0 := by decide +kernel
/-- The weight window's block index at a point: the whole array. -/
theorem at1_1 : ∀ t : Fin grid1.N, win1_1.index t 0 = 0 ∧ win1_1.index t 1 = 0 := by decide +kernel
/-- The output window's block index at a point. -/
theorem at1_2 : ∀ t : Fin grid1.N, win1_2.index t 0 = t.val ∧ win1_2.index t 1 = 0 := by decide +kernel

theorem N1 (t : Fin cfg1.N) : t.val < 18 := t.isLt.trans_eq N_1

/-- The activation's block at point `t` is the array's rows from `1024 t`. -/
theorem blk1_0 (c : Dev nD) (t : Fin cfg1.N) (r : Fin 1024) (k : Fin 1024) :
    (iblk1 V c 0 t : S1024x1024.Idx → EReal) (ix2 r k) = V c main_v4 (ix2 ⟨1024 * t.val + r.val, by have := N1 t; omega⟩ k) := by
  refine congrArg (V c main_v4) (at2 _ _ _ ?_ ?_)
  · show win1_0.index t 0 * 1024 + 1 * r.val = 1024 * t.val + r.val; rw [(at1_0 t).1]; omega
  · show win1_0.index t 1 * 1024 + 1 * k.val = k.val; rw [(at1_0 t).2]; omega

/-- The weight's block at every point is the array. -/
theorem blk1_1 (c : Dev nD) (t : Fin cfg1.N) (n : Fin 3072) (k : Fin 1024) :
    (iblk1 V c 1 t : S3072x1024.Idx → EReal) (ix2 n k) = V c main_v3 (ix2 n k) := by
  refine congrArg (V c main_v3) (at2 _ _ _ ?_ ?_)
  · show win1_1.index t 0 * 3072 + 1 * n.val = n.val; rw [(at1_1 t).1]; omega
  · show win1_1.index t 1 * 1024 + 1 * k.val = k.val; rw [(at1_1 t).2]; omega

theorem zero2 : (![0, 0] : Fin 2 → Nat) = fun _ => 0 := funext fun a => by fin_cases a <;> rfl

/-- The block a point computes from its two blocks: the row-by-row product. -/
theorem out1_apply (x0 : Vec Ideal S1024x1024 .bf16) (x1 : Vec Ideal S3072x1024 .bf16) (r : Fin 1024) (n : Fin 3072) :
    out1_2 x0 x1 (ix2 r n) = ∑ k : Fin 1024, x0 (ix2 r k) * x1 (ix2 n k) := by
  unfold out1_2
  rw [View.canon_unit_zero (S := S1024x3072) zero2, View.ld_unit_zero (S := S1024x1024) zero2, View.ld_unit_zero (S := S3072x1024) zero2]
  show matmul (F := Ideal) (φ₁ := .bf16) (φ₂ := .bf16) (DotDims.transposedRhs 1024 1024 3072) none (shapeCast S1024x1024 x0 shapeCasts_S1024x1024_S1024x1024)
    (shapeCast S3072x1024 x1 shapeCasts_S3072x1024_S3072x1024) (constant (F := Ideal) S1024x3072 .f32 0x00000000#32) (ix2 r n) = _
  rw [shapeCast_self, shapeCast_self]
  refine (Ideal.matmul_transposedRhs_apply none x0 x1 _ r n).trans ?_
  rw [constant_apply, Ideal.ofBits_zero_f32, zero_add]

/-- The product as the contents of the second pipeline's output array. -/
def productV (c : Dev nD) : Buf (Elt Ideal) ((c : Thread nD τ).loc main_v5) := fun (i : S18432x3072.Idx) =>
  product (V c main_v4) (V c main_v3) (i 0) (i 1)

/-- What point `t` writes back is block `t` of the product. -/
theorem flushed1 (c : Dev nD) (t : Fin cfg1.N) :
    (dat1 V c).flushed 2 t = (win1_2.blk t).view.read (Elt Ideal) (productV V c) := by
  show (cfg1.win 2).cut (grid1.coords t) ((dat1 V c).after 2 t) = _
  rw [after1_2]
  funext (i : S1024x3072.Idx)
  have hi : i = ix2 (i 0) (i 1) := at2 _ _ _ rfl rfl
  refine (congrArg (out1_2 (iblk1 V c 0 t) (iblk1 V c 1 t)) hi).trans ?_
  refine (out1_apply _ _ (i 0) (i 1)).trans ?_
  have h : (win1_2.rect t).emb i = ix2 ⟨1024 * t.val + (i 0 : Nat), by have := N1 t; have : (i 0 : Nat) < 1024 := (i 0).isLt; omega⟩ (i 1) := by
    refine at2 _ _ _ ?_ ?_
    · show win1_2.index t 0 * 1024 + 1 * (i 0 : Nat) = 1024 * t.val + (i 0 : Nat); rw [(at1_2 t).1]; omega
    · show win1_2.index t 1 * 3072 + 1 * (i 1 : Nat) = (i 1 : Nat); rw [(at1_2 t).2]; omega
  refine Eq.trans ?_ (congrArg (productV V c) h).symm
  show _ = product (V c main_v4) (V c main_v3) ⟨1024 * t.val + (i 0 : Nat), _⟩ (i 1)
  unfold product
  exact Finset.sum_congr rfl fun k _ => congrArg₂ (fun a b : EReal => a * b) (blk1_0 V c t (i 0) k) (blk1_1 V c t (i 1) k)

/-- An index of the output array is in point `t`'s block where its row is one of the point's. -/
theorem mem_blk1 (t : Fin cfg1.N) (i : S18432x3072.Idx) (h : 1024 * t.val ≤ (i 0 : Nat) ∧ (i 0 : Nat) < 1024 * t.val + 1024) :
    i ∈ ((cfg1.win 2).blk t).view.set := by
  show i ∈ ((View.whole main_v5).slice (win1_2.rect t)).set
  rw [View.set_slice_whole, Rect.mem_set_unit]
  have h1 : (i 1 : Nat) < 3072 := (i 1).isLt
  intro a
  match a with
  | ⟨0, _⟩ => show win1_2.index t 0 * 1024 ≤ (i 0 : Nat) ∧ (i 0 : Nat) < win1_2.index t 0 * 1024 + 1024
              rw [(at1_2 t).1]; omega
  | ⟨1, _⟩ => show win1_2.index t 1 * 3072 ≤ (i 1 : Nat) ∧ (i 1 : Nat) < win1_2.index t 1 * 3072 + 3072
              rw [(at1_2 t).2]; omega

/-- The eighteen blocks tile the output array. -/
theorem cover1 (i : S18432x3072.Idx) : ∃ t : Fin cfg1.N, (cfg1.win 2).flush t = true ∧ i ∈ ((cfg1.win 2).blk t).view.set := by
  have h0 : (i 0 : Nat) < 18432 := (i 0).isLt
  refine ⟨⟨(i 0 : Nat) / 1024, lt_of_lt_of_eq (show (i 0 : Nat) / 1024 < 18 by omega) N_1.symm⟩, flush1_2 _, mem_blk1 _ i ?_⟩
  show 1024 * ((i 0 : Nat) / 1024) ≤ (i 0 : Nat) ∧ (i 0 : Nat) < 1024 * ((i 0 : Nat) / 1024) + 1024
  omega

/-- The second pipeline's output array ends holding the product. -/
theorem final1 (c : Dev nD) : (dat1 V c).arrAt 2 cfg1.N = productV V c :=
  (dat1 V c).arrAt_eq_of_cover 2 (productV V c) (fun t _ => flushed1 V c t) cover1

end Cert.Sparse
-- ==== Proof.KernelValue.lean ====
/-
  The kernel's result array, read off its last valuation: the host operations around the two pipelines only lay
  arrays out again, so the result is the activation times the dense weight.
-/
module

public import proofs.«01_k».proof.Proof.Decode
public import proofs.«01_k».proof.Proof.Product
public import Idealize.ShloMosaic.Lib.StableHlo.Run
public import Idealize.ShloMosaic.Lib.Claim

@[expose] public section

set_option maxRecDepth 16384

noncomputable section

namespace Cert.Sparse

open Cert.KernelIdeal Cert.KernelIdeal.Gen
open Idealize.ShloMosaic Idealize.ShloMosaic.TcCoe Idealize.ShloMosaic.Tactic Idealize.ShloMosaic.ValueIdx
open Idealize.ShloMosaic.Pipeline (Dat)
open scoped BigOperators

/-- The dense weight of row `n` and column `k`, read off the kernel's arguments. -/
def weight (cols : S48x64x4.Idx → BitVec 8) (vals : S3072x128.Idx → EReal) (idx : S3072x32.Idx → BitVec 8)
    (sc : S48x8.Idx → EReal) (n : Fin 3072) (k : Fin 1024) : EReal :=
  entry (idx (ix2 n ⟨k.val / 32, by omega⟩)) (fun j => (cols (ix3 ⟨n.val / 64, by omega⟩ ⟨k.val / 16, by omega⟩ j)).signExtend 32)
    (vals (ix2 n ⟨2 * (k.val / 16), by omega⟩) * sc (ix2 ⟨n.val / 64, by omega⟩ ⟨k.val / 128, by omega⟩))
    (vals (ix2 n ⟨2 * (k.val / 16) + 1, by omega⟩) * sc (ix2 ⟨n.val / 64, by omega⟩ ⟨k.val / 128, by omega⟩)) k.val

/-- The result: the activation's row times the dense weight's row. -/
def result (x : S24x768x1024.Idx → EReal) (cols : S48x64x4.Idx → BitVec 8) (vals : S3072x128.Idx → EReal)
    (idx : S3072x32.Idx → BitVec 8) (sc : S48x8.Idx → EReal) (i : S24x768x3072.Idx) : EReal :=
  ∑ k : Fin 1024, x (ix3 (i 0) (i 1) k) * weight cols vals idx sc (i 2) k

/-- The columns' host reshape, read at an index. -/
theorem cols_apply (x : S48x64x4.Idx → BitVec 8) (h : S48x64x4.ShapeCasts S12x4x256) (n : Fin 3072) (g : Fin 64) (j : Fin 4) :
    (shapeCast S12x4x256 x h : S12x4x256.Idx → BitVec 8)
        (ix3 ⟨n.val / 256, by omega⟩ ⟨n.val / 64 % 4, by omega⟩ ⟨4 * g.val + j.val, by omega⟩)
      = x (ix3 ⟨n.val / 64, by omega⟩ g j) := by
  refine shapeCast_apply _ _ _ _ ?_
  refine (Shape.rowMajor_val_three _).trans (Eq.trans ?_ (Shape.rowMajor_val_three _).symm)
  show (n.val / 64 * 64 + g.val) * 4 + j.val = (n.val / 256 * 4 + n.val / 64 % 4) * 256 + (4 * g.val + j.val)
  omega

/-- The scales' host reshape, read at an index. -/
theorem sc_apply (x : S48x8.Idx → EReal) (h : S48x8.ShapeCasts S12x4x8) (n : Fin 3072) (q : Fin 8) :
    (shapeCast S12x4x8 x h : S12x4x8.Idx → EReal) (ix3 ⟨n.val / 256, by omega⟩ ⟨n.val / 64 % 4, by omega⟩ q)
      = x (ix2 ⟨n.val / 64, by omega⟩ q) := by
  refine shapeCast_apply _ _ _ _ ?_
  refine (Shape.rowMajor_val_two _).trans (Eq.trans ?_ (Shape.rowMajor_val_three _).symm)
  show n.val / 64 * 8 + q.val = (n.val / 256 * 4 + n.val / 64 % 4) * 8 + q.val
  omega

/-- The activation's host reshape, read at an index. -/
theorem act_apply (x : S24x768x1024.Idx → EReal) (h : S24x768x1024.ShapeCasts S18432x1024) (b : Fin 24) (s : Fin 768) (k : Fin 1024) :
    (shapeCast S18432x1024 x h : S18432x1024.Idx → EReal) (ix2 ⟨768 * b.val + s.val, by omega⟩ k) = x (ix3 b s k) := by
  refine shapeCast_apply _ _ _ _ ?_
  refine (Shape.rowMajor_val_three _).trans (Eq.trans ?_ (Shape.rowMajor_val_two _).symm)
  show (b.val * 768 + s.val) * 1024 + k.val = (768 * b.val + s.val) * 1024 + k.val
  omega

/-- The result's host reshape, read at an index. -/
theorem res_apply (x : S18432x3072.Idx → EReal) (h : S18432x3072.ShapeCasts S24x768x3072) (b : Fin 24) (s : Fin 768) (n : Fin 3072) :
    (shapeCast S24x768x3072 x h : S24x768x3072.Idx → EReal) (ix3 b s n) = x (ix2 ⟨768 * b.val + s.val, by omega⟩ n) := by
  refine shapeCast_apply _ _ _ _ ?_
  refine (Shape.rowMajor_val_two _).trans (Eq.trans ?_ (Shape.rowMajor_val_three _).symm)
  show (768 * b.val + s.val) * 3072 + n.val = (b.val * 768 + s.val) * 3072 + n.val
  omega

section
variable {F : FTy → Type} [FloatOps F]
variable (X : Valuation τ sig (Elt F))

/-- After the first host stretch the columns' array holds the widened, reshaped columns. -/
theorem host0_v1 : StableHlo.after hostOps0 X (Proc.devRef .tc main_v1)
    = (extsi 32 (shapeCast S12x4x256 (X (Proc.devRef .tc main_arg1) : S48x64x4.Idx → BitVec 8) shapeCasts_S48x64x4_S12x4x256) natLt_8_32 : S12x4x256.Idx → BitVec 32) := by
  unfold_abbrev_sides
  after_results
  rfl
/-- After the first host stretch the scales' array holds the reshaped scales. -/
theorem host0_v2 : StableHlo.after hostOps0 X (Proc.devRef .tc main_v2)
    = (shapeCast S12x4x8 (X (Proc.devRef .tc main_arg4) : S48x8.Idx → F .f32) shapeCasts_S48x8_S12x4x8 : S12x4x8.Idx → F .f32) := by
  unfold_abbrev_sides
  after_results
  rfl
/-- After the second host stretch the activation's array holds the reshaped activation. -/
theorem host1_v4 : StableHlo.after hostOps1 X (Proc.devRef .tc main_v4)
    = (shapeCast S18432x1024 (X (Proc.devRef .tc main_arg0) : S24x768x1024.Idx → F .bf16) shapeCasts_S24x768x1024_S18432x1024 : S18432x1024.Idx → F .bf16) := by
  unfold_abbrev_sides
  after_results
  rfl
/-- After the last host stretch the result holds the reshaped product. -/
theorem host2_v6 : StableHlo.after hostOps2 X (Proc.devRef .tc main_v6)
    = (shapeCast S24x768x3072 (X (Proc.devRef .tc main_v5) : S18432x3072.Idx → F .bf16) shapeCasts_S18432x3072_S24x768x3072 : S24x768x3072.Idx → F .bf16) := by
  unfold_abbrev_sides
  after_results
  rfl
end

variable (m : (ℓ : Loc nD τ sig) → Buf (Elt Ideal) ℓ) (ρ : Dev nD → PrngReg)

/-- The decode's output, entering the second pipeline, is the dense weight of the arguments. -/
theorem V3_v3 (c : Dev nD) (n : Fin 3072) (k : Fin 1024) : (V3 m ρ c main_v3 : S3072x1024.Idx → EReal) (ix2 n k)
    = weight (m ((c : Thread nD τ).loc main_arg1)) (m ((c : Thread nD τ).loc main_arg2)) (m ((c : Thread nD τ).loc main_arg3))
        (m ((c : Thread nD τ).loc main_arg4)) n k := by
  have h : V3 m ρ c main_v3 = denseV (V1 m ρ) c :=
    (W3_of m ρ c main_v3 (by decide)).trans ((W2_arr m ρ c 4).trans (final0 (V1 m ρ) c))
  refine (congrFun h (ix2 n k)).trans ?_
  have e1 : V1 m ρ c main_v1 = _ := host0_v1 (W0 m ρ c)
  have e4 : V1 m ρ c main_v2 = _ := host0_v2 (W0 m ρ c)
  have e2 : V1 m ρ c main_arg2 = m ((c : Thread nD τ).loc main_arg2) := W1_args m ρ c main_arg2 (by decide)
  have e3 : V1 m ρ c main_arg3 = m ((c : Thread nD τ).loc main_arg3) := W1_args m ρ c main_arg3 (by decide)
  show dense (V1 m ρ c main_v1) (V1 m ρ c main_arg2) (V1 m ρ c main_arg3) (V1 m ρ c main_v2) n k = _
  rw [e1, e2, e3, e4]
  unfold dense weight
  congr 1
  · funext j
    exact congrArg (BitVec.signExtend 32) (cols_apply _ _ n ⟨k.val / 16, by omega⟩ j)
  · exact congrArg (fun z : EReal => _ * z) (sc_apply _ _ n ⟨k.val / 128, by omega⟩)
  · exact congrArg (fun z : EReal => _ * z) (sc_apply _ _ n ⟨k.val / 128, by omega⟩)

/-- The kernel's result array ends holding the activation times the dense weight. -/
theorem kernel_value (c : Dev nD) : W5 m ρ c (Proc.devRef .tc main_v6)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (host2_v6 (W4 m ρ c)).trans ?_
  have h : W4 m ρ c (Proc.devRef .tc main_v5) = productV (V3 m ρ) c := (W4_arr m ρ c 2).trans (final1 (V3 m ρ) c)
  rw [h]
  funext (i : S24x768x3072.Idx)
  have hi : i = ix3 (i 0) (i 1) (i 2) := at3 _ _ _ _ rfl rfl rfl
  rw [hi]
  refine (res_apply _ _ (i 0) (i 1) (i 2)).trans ?_
  have e : V3 m ρ c main_v4 = _ := host1_v4 (W2 m ρ c)
  rw [W2_args m ρ c main_arg0 (by decide)] at e
  show product (V3 m ρ c main_v4) (V3 m ρ c main_v3) _ (i 2) = _
  rw [e]
  unfold product result
  refine Finset.sum_congr rfl fun k _ => congrArg₂ (fun a b : EReal => a * b) (act_apply _ _ (i 0) (i 1) k) (V3_v3 m ρ c (i 2) k)

end Cert.Sparse
-- ==== Proof.RefRead.lean ====
/-
  The reference's operations read at an index: its scattered weight is the dense weight the kernel decodes.
-/
module

public import proofs.«01_k».proof.Proof.KernelValue
public import proofs.«01_k».proof.Proof.Gen.ReferenceIdeal.Read

@[expose] public section

set_option maxRecDepth 16384

noncomputable section

namespace Cert.Sparse.Ref

open Cert.ReferenceIdeal Cert.ReferenceIdeal.Read
open Idealize.ShloMosaic Idealize.ShloMosaic.TcCoe Idealize.ShloMosaic.ValueIdx
open scoped BigOperators

variable (x0 : (⟨S24x768x1024, .bf16⟩ : BufTy).Contents (Elt Ideal)) (x1 : (⟨S48x64x4, .i8⟩ : BufTy).Contents (Elt Ideal))
  (x3 : (⟨S3072x32, .i8⟩ : BufTy).Contents (Elt Ideal)) (x4 : (⟨S48x8, .f32⟩ : BufTy).Contents (Elt Ideal))
  (r0 : (⟨S3072x128, .bf16⟩ : BufTy).Contents (Elt Ideal))

/-- A byte widened with zeros is not negative, so the host's arithmetic shift by nothing or by a nibble is the logical one. -/
theorem shift_byte : ∀ (b : BitVec 8) (h : Fin 2),
    IntOp.shrsi .host (b.setWidth 32) (IntOp.muli 4#32 (BitVec.ofNat 32 h.val))
      = IntOp.shrui .vector (b.setWidth 32) (BitVec.ofNat 32 (4 * h.val)) := by decide +kernel

/-- A shift by two reads the same on the host and on a vector. -/
theorem shift_two (n : BitVec 32) : IntOp.shrsi .host n 2#32 = IntOp.shrsi .vector n 2#32 := rfl

/-- The nibble of a row and a group. -/
theorem nib_apply (n : Fin 3072) (g : Fin 64) (k : Nat) (hk : k / 16 = g.val) :
    val_main_v10 (F := Ideal) x3 (ix2 n g) = nibble (x3 (ix2 n ⟨g.val / 2, by omega⟩)) k := by
  have hi : idx_main_v10 (ix2 n g) = ix3 n ⟨g.val / 2, by omega⟩ ⟨g.val % 2, by omega⟩ := by
    refine at3 _ _ _ _ ?_ ?_ ?_
    · show (n.val * 64 + g.val) / 64 = n.val; omega
    · show (n.val * 64 + g.val) / 2 % 32 = g.val / 2; omega
    · show (n.val * 64 + g.val) % 2 = g.val % 2; omega
  rw [val_main_v10_apply, hi, val_main_v9_apply, val_main_v7_apply, val_main_v5_apply, val_main_v4_apply, val_main_v8_apply,
    val_main_v6_apply, val_main_v3_apply, val_main_v2_apply, val_main_c_apply, val_main_v1_apply]
  unfold nibble
  rw [hk]
  refine Eq.trans ?_ (shift_byte (x3 (ix2 n ⟨g.val / 2, by omega⟩)) ⟨g.val % 2, by omega⟩)
  refine congrArg (fun z => IntOp.shrsi .host (BitVec.setWidth 32 (x3 z)) _) (at2 _ _ _ ?_ ?_)
  · rfl
  · rfl

/-- The first index of a row and a group. -/
theorem sel0_apply (n : Fin 3072) (g : Fin 64) (k : Nat) (hk : k / 16 = g.val) :
    val_main_v19 (F := Ideal) x3 (ix3 n g 0) = first (x3 (ix2 n ⟨g.val / 2, by omega⟩)) k := by
  unfold val_main_v19
  refine (concatenate_pair_apply_left (t := S3072x64x2) (s₁ := S3072x64x1) (s₂ := S3072x64x1) 2 _ _ _ _ rfl (ix3 n g (0 : Fin 1) : S3072x64x1.Idx) (fun b => match b with | ⟨0, _⟩ => rfl | ⟨1, _⟩ => rfl | ⟨2, _⟩ => rfl)).trans ?_
  rw [val_main_v17_apply, val_main_v12_apply, val_main_v11_apply, val_main_c_0_apply]
  unfold first
  rw [← nib_apply x3 n g k hk]
  exact congrArg (fun z => IntOp.andi (val_main_v10 (F := Ideal) x3 z) 3#32) (at2 _ _ _ rfl rfl)

/-- The second index of a row and a group. -/
theorem sel1_apply (n : Fin 3072) (g : Fin 64) (k : Nat) (hk : k / 16 = g.val) :
    val_main_v19 (F := Ideal) x3 (ix3 n g 1) = second (x3 (ix2 n ⟨g.val / 2, by omega⟩)) k := by
  unfold val_main_v19
  refine (concatenate_pair_apply_right (t := S3072x64x2) (s₁ := S3072x64x1) (s₂ := S3072x64x1) 2 _ _ _ _ rfl rfl (ix3 n g (0 : Fin 1) : S3072x64x1.Idx) (fun b hb => match b, hb with
    | ⟨0, _⟩, _ => rfl
    | ⟨1, _⟩, _ => rfl
    | ⟨2, _⟩, hb => absurd rfl hb) rfl).trans ?_
  rw [val_main_v18_apply, val_main_v16_apply, val_main_v15_apply, val_main_c_2_apply, val_main_v14_apply, val_main_v13_apply, val_main_c_1_apply,
    shift_two]
  unfold second
  rw [← nib_apply x3 n g k hk]
  exact congrArg (fun z => IntOp.andi (IntOp.shrsi .vector (val_main_v10 (F := Ideal) x3 z) 2#32) 3#32) (at2 _ _ _ rfl rfl)

/-- Equal coordinates read the same widened column. -/
theorem group (i : S48x64x4.Idx) (b : Fin 48) (g : Fin 64) (j : Fin 4) (h0 : (i 0 : Nat) = b.val) (h1 : (i 1 : Nat) = g.val)
    (h2 : (i 2 : Nat) = j.val) : (x1 i).signExtend 32 = (x1 (ix3 b g j)).signExtend 32 := by
  rw [at3 i b g j h0 h1 h2]

/-- Column 3 of the group, broadcast to every row and both indices. -/
theorem col3_apply (b : Fin 48) (r g : Fin 64) (p : Fin 2) :
    val_main_call0_v0 (F := Ideal) x1 (ix4 b r g p) = (x1 (ix3 b g 3)).signExtend 32 := by
  rw [val_main_call0_v0_apply, val_main_v32_apply, val_main_v31_apply, val_main_v22_apply, val_main_v21_apply]
  exact group x1 _ b g 3
    (by show (((b.val * 1 + 0) * 64 + g.val) * 1 + 0) / 64 = b.val; omega)
    (by show (((b.val * 1 + 0) * 64 + g.val) * 1 + 0) / 1 % 64 = g.val; omega) rfl
/-- Column 2 of the group, broadcast to every row and both indices. -/
theorem col2_apply (b : Fin 48) (r g : Fin 64) (p : Fin 2) :
    val_main_call0_v1 (F := Ideal) x1 (ix4 b r g p) = (x1 (ix3 b g 2)).signExtend 32 := by
  rw [val_main_call0_v1_apply, val_main_v34_apply, val_main_v33_apply, val_main_v22_apply, val_main_v21_apply]
  exact group x1 _ b g 2
    (by show (((b.val * 1 + 0) * 64 + g.val) * 1 + 0) / 64 = b.val; omega)
    (by show (((b.val * 1 + 0) * 64 + g.val) * 1 + 0) / 1 % 64 = g.val; omega) rfl
/-- Column 1 of the group, broadcast to every row and both indices. -/
theorem col1_apply (b : Fin 48) (r g : Fin 64) (p : Fin 2) :
    val_main_call1_v0 (F := Ideal) x1 (ix4 b r g p) = (x1 (ix3 b g 1)).signExtend 32 := by
  rw [val_main_call1_v0_apply, val_main_v37_apply, val_main_v36_apply, val_main_v22_apply, val_main_v21_apply]
  exact group x1 _ b g 1
    (by show (((b.val * 1 + 0) * 64 + g.val) * 1 + 0) / 64 = b.val; omega)
    (by show (((b.val * 1 + 0) * 64 + g.val) * 1 + 0) / 1 % 64 = g.val; omega) rfl
/-- Column 0 of the group, broadcast to every row and both indices. -/
theorem col0_apply (b : Fin 48) (r g : Fin 64) (p : Fin 2) :
    val_main_call1_v1 (F := Ideal) x1 (ix4 b r g p) = (x1 (ix3 b g 0)).signExtend 32 := by
  rw [val_main_call1_v1_apply, val_main_v39_apply, val_main_v38_apply, val_main_v22_apply, val_main_v21_apply]
  exact group x1 _ b g 0
    (by show (((b.val * 1 + 0) * 64 + g.val) * 1 + 0) / 64 = b.val; omega)
    (by show (((b.val * 1 + 0) * 64 + g.val) * 1 + 0) / 1 % 64 = g.val; omega) rfl

/-- The where-chain over the four columns is the pick by the two low bits of the index. -/
theorem chain_apply (b : Fin 48) (r g : Fin 64) (p : Fin 2) :
    val_main_v41 (F := Ideal) x1 x3 (ix4 b r g p)
      = pick (val_main_v20 (F := Ideal) x3 (ix4 b r g p)) (fun j => (x1 (ix3 b g j)).signExtend 32) := by
  rw [val_main_v41_apply, val_main_v30_apply, val_main_v28_apply, val_main_v27_apply, val_main_c_5_apply, val_main_v29_apply, val_main_c_6_apply,
    val_main_v35_apply, val_main_v40_apply, val_main_v26_apply, val_main_v24_apply, val_main_v23_apply, val_main_c_3_apply, val_main_v25_apply,
    val_main_c_4_apply, col0_apply, col1_apply, col2_apply, col3_apply]
  rfl

/-- The chosen column of a row, a group and one of the two indices. -/
theorem chosen_apply (n : Fin 3072) (g : Fin 64) (p : Fin 2) :
    val_main_v42 (F := Ideal) x1 x3 (ix3 n g p)
      = pick (val_main_v19 (F := Ideal) x3 (ix3 n g p)) (fun j => (x1 (ix3 ⟨n.val / 64, by omega⟩ g j)).signExtend 32) := by
  have hi : idx_main_v42 (ix3 n g p) = ix4 ⟨n.val / 64, by omega⟩ ⟨n.val % 64, by omega⟩ g p := by
    refine at4 _ _ _ _ _ ?_ ?_ ?_ ?_
    · show ((n.val * 64 + g.val) * 2 + p.val) / 8192 = n.val / 64; omega
    · show ((n.val * 64 + g.val) * 2 + p.val) / 128 % 64 = n.val % 64; omega
    · show ((n.val * 64 + g.val) * 2 + p.val) / 2 % 64 = g.val; omega
    · show ((n.val * 64 + g.val) * 2 + p.val) % 2 = p.val; omega
  rw [val_main_v42_apply, hi, chain_apply, val_main_v20_apply]
  refine congrArg (fun z => pick (val_main_v19 (F := Ideal) x3 z) _) (at3 _ _ _ _ ?_ ?_ ?_)
  · show (((n.val / 64 * 64 + n.val % 64) * 64 + g.val) * 2 + p.val) / 128 = n.val; omega
  · show (((n.val / 64 * 64 + n.val % 64) * 64 + g.val) * 2 + p.val) / 2 % 64 = g.val; omega
  · show (((n.val / 64 * 64 + n.val % 64) * 64 + g.val) * 2 + p.val) % 2 = p.val; omega

/-- The scaled value of a row, a group and one of its two places. -/
theorem scaled_apply (n : Fin 3072) (g : Fin 64) (p : Fin 2) :
    val_main_v48 (F := Ideal) x4 r0 (ix3 n g p)
      = ((r0 (ix2 n ⟨2 * g.val + p.val, by omega⟩) : EReal) * x4 (ix2 ⟨n.val / 64, by omega⟩ ⟨g.val / 8, by omega⟩) : EReal) := by
  have hi : idx_main_v48 (ix3 n g p)
      = ix4 ⟨n.val / 64, by omega⟩ ⟨n.val % 64, by omega⟩ ⟨g.val / 8, by omega⟩ ⟨2 * (g.val % 8) + p.val, by omega⟩ := by
    refine at4 _ _ _ _ _ ?_ ?_ ?_ ?_
    · show ((n.val * 64 + g.val) * 2 + p.val) / 8192 = n.val / 64; omega
    · show ((n.val * 64 + g.val) * 2 + p.val) / 128 % 64 = n.val % 64; omega
    · show ((n.val * 64 + g.val) * 2 + p.val) / 16 % 8 = g.val / 8; omega
    · show ((n.val * 64 + g.val) * 2 + p.val) % 16 = 2 * (g.val % 8) + p.val; omega
  rw [val_main_v48_apply, hi, val_main_v47_apply, val_main_v43_apply, val_main_v46_apply, val_main_v45_apply, val_main_v44_apply]
  refine congrArg₂ (fun a b : EReal => a * b) (congrArg r0 (at2 _ _ _ ?_ ?_)) (congrArg x4 (at2 _ _ _ ?_ ?_))
  · show (((n.val / 64 * 64 + n.val % 64) * 8 + g.val / 8) * 16 + (2 * (g.val % 8) + p.val)) / 128 = n.val; omega
  · show (((n.val / 64 * 64 + n.val % 64) * 8 + g.val / 8) * 16 + (2 * (g.val % 8) + p.val)) % 128 = 2 * g.val + p.val; omega
  · rfl
  · rfl

/-- The scattered weight at a row and a column is the dense weight. -/
theorem weight_apply (n : Fin 3072) (k : Fin 1024) :
    val_main_v64 (F := Ideal) x1 x3 x4 r0 (ix2 n k) = weight x1 r0 x3 x4 n k := by
  have hi : idx_main_v64 (ix2 n k) = ix3 n ⟨k.val / 16, by omega⟩ ⟨k.val % 16, by omega⟩ := by
    refine at3 _ _ _ _ ?_ ?_ ?_
    · show (n.val * 1024 + k.val) / 1024 = n.val; omega
    · show (n.val * 1024 + k.val) / 16 % 64 = k.val / 16; omega
    · show (n.val * 1024 + k.val) % 16 = k.val % 16; omega
  have e50 : ∀ (g : Fin 64) (o : Fin 16), idx_main_v50 (idx_main_v53 (ix3 n g o)) = ix3 n g 0 := fun g o => at3 _ _ _ _ rfl rfl rfl
  have e56 : ∀ (g : Fin 64) (o : Fin 16), idx_main_v56 (idx_main_v59 (ix3 n g o)) = ix3 n g 1 := fun g o => at3 _ _ _ _ rfl rfl rfl
  have e55 : ∀ (g : Fin 64) (o : Fin 16), idx_main_v55 (idx_main_call4_v0 (ix3 n g o)) = ix3 n g 0 := fun g o => at3 _ _ _ _ rfl rfl rfl
  have e61 : ∀ (g : Fin 64) (o : Fin 16), idx_main_v61 (idx_main_call3_v0 (ix3 n g o)) = ix3 n g 1 := fun g o => at3 _ _ _ _ rfl rfl rfl
  rw [val_main_v64_apply, hi, val_main_v63_apply, val_main_v54_apply, val_main_v52_apply, val_main_v51_apply, val_main_v49_apply,
    val_main_v53_apply, val_main_v50_apply, e50, val_main_call4_v0_apply, val_main_v55_apply, e55, val_main_v62_apply, val_main_v60_apply,
    val_main_v58_apply, val_main_v57_apply, val_main_v49_apply, val_main_v59_apply, val_main_v56_apply, e56, val_main_call3_v0_apply,
    val_main_v61_apply, e61, val_main_call3_v1_apply, val_main_cst_apply, chosen_apply, chosen_apply, scaled_apply, scaled_apply,
    sel0_apply x3 n _ k.val rfl, sel1_apply x3 n _ k.val rfl]
  have h2 : (⟨k.val / 16 / 2, by omega⟩ : Fin 32) = ⟨k.val / 32, by omega⟩ := Fin.ext (by show k.val / 16 / 2 = k.val / 32; omega)
  have h8 : (⟨k.val / 16 / 8, by omega⟩ : Fin 8) = ⟨k.val / 128, by omega⟩ := Fin.ext (by show k.val / 16 / 8 = k.val / 128; omega)
  have hz : (FloatOps.ofBits (F := Ideal) .bf16 0x0000#16 : EReal) = 0 := Ideal.ofBits_zero_bf16
  unfold weight entry
  rw [← h2, ← h8]
  exact congrArg (fun z : EReal => Scalar.select _ _ (Scalar.select _ _ z)) hz

/-- The reference's result is the activation times the dense weight. -/
theorem result_eq : val_main_v66 (F := Ideal) x0 x1 x3 x4 r0 = result x0 x1 r0 x3 x4 := by
  funext (i : S24x768x3072.Idx)
  rw [val_main_v66_apply]
  show val_main_v65 (F := Ideal) x0 x1 x3 x4 r0 i = _
  rw [val_main_v65_apply]
  unfold result
  refine Finset.sum_congr rfl fun k _ => congrArg₂ (fun a b : EReal => a * b) (congrArg x0 (at3 _ _ _ _ rfl rfl rfl)) ?_
  refine Eq.trans ?_ (weight_apply x1 x3 x4 r0 (i 2) k)
  exact congrArg (val_main_v64 (F := Ideal) x1 x3 x4 r0) (at2 _ _ _ rfl rfl)

end Cert.Sparse.Ref
-- ==== Proof.RefValue.lean ====
/-
  The reference's run: its one gridless call widens the values, and its result is the activation times the dense
  weight.
-/
module

public import proofs.«01_k».proof.Proof.RefRead

@[expose] public section

set_option maxRecDepth 16384

noncomputable section

namespace Cert.Sparse.Ref

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The values, widened: at the ideal numbers, the values themselves. -/
def wide (c : Dev nD) : Buf (Elt Ideal) ((c : Thread nD τ).loc main_v0) :=
  extf (F := Ideal) (s := S3072x128) (φ := .fp8e4m3) .bf16 (m ((c : Thread nD τ).loc main_arg2)) bitsLt_fp8e4m3_bf16

theorem zero2 : (![0, 0] : Fin 2 → Nat) = fun _ => 0 := funext fun a => by fin_cases a <;> rfl

/-- What the call's one point writes back is the widened values, read through its block. -/
theorem flushed_eq (c : Dev nD) (t : Fin cfg0.N) :
    (dats m 0 c).flushed 1 t = (win0_1.blk t).view.read (Elt Ideal) (wide m c) := by
  show (cfg0.win 1).cut (grid0.coords t) ((dats m 0 c).after 1 t) = _
  rw [after0_1]
  unfold out0_1
  rw [View.canon_unit_zero (S := S3072x128) zero2, View.ld_unit_zero (S := S3072x128) zero2]
  rfl

/-- Every index of the call's output is in its one point's block. -/
theorem mem_blk (t : Fin cfg0.N) (i : S3072x128.Idx) : i ∈ ((cfg0.win 1).blk t).view.set := by
  show i ∈ ((View.whole main_v0).slice (win0_1.rect t)).set
  rw [View.set_slice_whole, Rect.mem_set_unit]
  have h0 : (i 0 : Nat) < 3072 := (i 0).isLt
  have h1 : (i 1 : Nat) < 128 := (i 1).isLt
  have e : win0_1.index t 0 = 0 ∧ win0_1.index t 1 = 0 := by rcases fin_N0 t with rfl; decide +kernel
  intro a
  match a with
  | ⟨0, _⟩ => show win0_1.index t 0 * 3072 ≤ (i 0 : Nat) ∧ (i 0 : Nat) < win0_1.index t 0 * 3072 + 3072
              rw [e.1]; omega
  | ⟨1, _⟩ => show win0_1.index t 1 * 128 ≤ (i 1 : Nat) ∧ (i 1 : Nat) < win0_1.index t 1 * 128 + 128
              rw [e.2]; omega

/-- The call's output array ends holding the widened values. -/
theorem widened (c : Dev nD) : Value.reg_main_v0 m c = wide m c :=
  (dats m 0 c).arrAt_eq_of_cover 1 (wide m c) (fun t _ => flushed_eq m c t) fun i => ⟨t0_0, flush0_1 _, mem_blk t0_0 i⟩

/-- Every run of the reference ends with the activation times the dense weight, the arguments unchanged. -/
theorem run : θ_run defs (onTc (τ := τ) (main (F := Ideal))) ⟨m, fun _ => 0, ρ⟩ fun r => ∀ c : Dev nD,
      r.2.mem ((c.tc : Thread nD τ).loc main_v66)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨((h c).1.trans (Read.val_main_v66_eq (Value.exitV m c))).trans ?_, (h c).2⟩) (Value.run m ρ)
  rw [Value.exit_main_arg0, Value.exit_main_arg1, Value.exit_main_arg3, Value.exit_main_arg4, Value.exit_main_v0, widened]
  exact result_eq _ _ _ _ _

end Cert.Sparse.Ref
-- ==== Proof.lean ====
/-
  The proof of `Cert.Claim`: the three frames, the idealization's preservation, and the equality of the kernel's and
  the reference's results at the ideal numbers, both shown to be the activation times the dense weight.
-/
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- At the ideal numbers the kernel and the reference end with the same result and their arguments unchanged. -/
theorem algebraic : Cert.algebraic_KernelIdeal_ReferenceIdeal := by
  intro m g m' g' _ h
  refine ⟨fun c => Cert.KernelIdeal.Gen.W5 m g c (Proc.devRef .tc Cert.KernelIdeal.main_v6), Cert.Sparse.KernelRun.run m g, ?_⟩
  refine (θ_run Cert.ReferenceIdeal.defs _ _).mono (fun _ hr c => ⟨(hr c).1.trans ?_, (hr c).2⟩) (Cert.Sparse.Ref.run m' g')
  rw [(h c).1, (h c).2.1, (h c).2.2.1, (h c).2.2.2.1, (h c).2.2.2.2]
  exact (Cert.Sparse.kernel_value m g c).symm

/-- Every claim of this directory. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
